-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn [hPre_blocks_named : Cert.Pre_blocks_named.Facts] (m : (ℓ : Loc Cert.Ffn.nD Cert.Ffn.τ Cert.Ffn.sig) → Buf (Elt Bits) ℓ) : Prop :=
  ∀ c : Dev Cert.Ffn.nD,
    (Cert.Pre_blocks_named.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7))) = (fun _ => 1#1)

def Pre_FfnIdeal [hPre_blocks_named : Cert.Pre_blocks_named.Facts] (m : (ℓ : Loc Cert.FfnIdeal.nD Cert.FfnIdeal.τ Cert.FfnIdeal.sig) → Buf (Elt Ideal) ℓ) : Prop :=
  ∀ c : Dev Cert.FfnIdeal.nD,
    (Cert.Pre_blocks_named.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal [hPre_blocks_named : Cert.Pre_blocks_named.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_blocks_named.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_Combine [hPre_rows_named : Cert.Pre_rows_named.Facts] (m : (ℓ : Loc Cert.Combine.nD Cert.Combine.τ Cert.Combine.sig) → Buf (Elt Bits) ℓ) : Prop :=
  ∀ c : Dev Cert.Combine.nD,
    (Cert.Pre_rows_named.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_rows_named : Cert.Pre_rows_named.Facts] (m : (ℓ : Loc Cert.CombineIdeal.nD Cert.CombineIdeal.τ Cert.CombineIdeal.sig) → Buf (Elt Ideal) ℓ) : Prop :=
  ∀ c : Dev Cert.CombineIdeal.nD,
    (Cert.Pre_rows_named.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal [hPre_rows_named : Cert.Pre_rows_named.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_named.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_IndexQuery (m : (ℓ : Loc Cert.IndexQuery.nD Cert.IndexQuery.τ Cert.IndexQuery.sig) → Buf (Elt Bits) ℓ) : Prop :=
  True

def Pre_IndexQueryIdeal (m : (ℓ : Loc Cert.IndexQueryIdeal.nD Cert.IndexQueryIdeal.τ Cert.IndexQueryIdeal.sig) → Buf (Elt Ideal) ℓ) : Prop :=
  True

def Pre_IndexQueryRefIdeal (m : (ℓ : Loc Cert.IndexQueryRefIdeal.nD Cert.IndexQueryRefIdeal.τ Cert.IndexQueryRefIdeal.sig) → Buf (Elt Ideal) ℓ) : Prop :=
  True

def Pre_IndexKey (m : (ℓ : Loc Cert.IndexKey.nD Cert.IndexKey.τ Cert.IndexKey.sig) → Buf (Elt Bits) ℓ) : Prop :=
  True

def Pre_IndexKeyIdeal (m : (ℓ : Loc Cert.IndexKeyIdeal.nD Cert.IndexKeyIdeal.τ Cert.IndexKeyIdeal.sig) → Buf (Elt Ideal) ℓ) : Prop :=
  True

def Pre_IndexKeyRefIdeal (m : (ℓ : Loc Cert.IndexKeyRefIdeal.nD Cert.IndexKeyRefIdeal.τ Cert.IndexKeyRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ffn [hFfn : Cert.Ffn.Facts] [hPre_blocks_named : Cert.Pre_blocks_named.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] [hPre_blocks_named : Cert.Pre_blocks_named.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] [hPre_blocks_named : Cert.Pre_blocks_named.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Combine [hCombine : Cert.Combine.Facts] [hPre_rows_named : Cert.Pre_rows_named.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_rows_named : Cert.Pre_rows_named.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] [hPre_rows_named : Cert.Pre_rows_named.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_IndexQuery [hIndexQuery : Cert.IndexQuery.Facts] : Prop :=
  ∀ (m : (ℓ : Loc Cert.IndexQuery.nD Cert.IndexQuery.τ Cert.IndexQuery.sig) → Buf (Elt Bits) ℓ) (g : Dev Cert.IndexQuery.nD → PrngReg), Pre_IndexQuery m →
    θ_run (Cert.IndexQuery.defs (F := Bits)) (onTc (τ := Cert.IndexQuery.τ) (Cert.IndexQuery.main (F := Bits))) ⟨m, fun _ => 0, g⟩ (fun r => (∀ c : Dev Cert.IndexQuery.nD,
      r.2.mem ((c.tc : Thread Cert.IndexQuery.nD Cert.IndexQuery.τ).loc Cert.IndexQuery.main_arg0) = m ((c.tc : Thread Cert.IndexQuery.nD Cert.IndexQuery.τ).loc Cert.IndexQuery.main_arg0)
      ∧ r.2.mem ((c.tc : Thread Cert.IndexQuery.nD Cert.IndexQuery.τ).loc Cert.IndexQuery.main_arg1) = m ((c.tc : Thread Cert.IndexQuery.nD Cert.IndexQuery.τ).loc Cert.IndexQuery.main_arg1))
      ∧ r.2.sem = fun _ => 0)

def quiescent_IndexQueryIdeal [hIndexQueryIdeal : Cert.IndexQueryIdeal.Facts] : Prop :=
  ∀ (m : (ℓ : Loc Cert.IndexQueryIdeal.nD Cert.IndexQueryIdeal.τ Cert.IndexQueryIdeal.sig) → Buf (Elt Ideal) ℓ) (g : Dev Cert.IndexQueryIdeal.nD → PrngReg), Pre_IndexQueryIdeal m →
    θ_run (Cert.IndexQueryIdeal.defs (F := Ideal)) (onTc (τ := Cert.IndexQueryIdeal.τ) (Cert.IndexQueryIdeal.main (F := Ideal))) ⟨m, fun _ => 0, g⟩ (fun r => (∀ c : Dev Cert.IndexQueryIdeal.nD,
      r.2.mem ((c.tc : Thread Cert.IndexQueryIdeal.nD Cert.IndexQueryIdeal.τ).loc Cert.IndexQueryIdeal.main_arg0) = m ((c.tc : Thread Cert.IndexQueryIdeal.nD Cert.IndexQueryIdeal.τ).loc Cert.IndexQueryIdeal.main_arg0)
      ∧ r.2.mem ((c.tc : Thread Cert.IndexQueryIdeal.nD Cert.IndexQueryIdeal.τ).loc Cert.IndexQueryIdeal.main_arg1) = m ((c.tc : Thread Cert.IndexQueryIdeal.nD Cert.IndexQueryIdeal.τ).loc Cert.IndexQueryIdeal.main_arg1))
      ∧ r.2.sem = fun _ => 0)

def quiescent_IndexQueryRefIdeal [hIndexQueryRefIdeal : Cert.IndexQueryRefIdeal.Facts] : Prop :=
  ∀ (m : (ℓ : Loc Cert.IndexQueryRefIdeal.nD Cert.IndexQueryRefIdeal.τ Cert.IndexQueryRefIdeal.sig) → Buf (Elt Ideal) ℓ) (g : Dev Cert.IndexQueryRefIdeal.nD → PrngReg), Pre_IndexQueryRefIdeal m →
    θ_run (Cert.IndexQueryRefIdeal.defs (F := Ideal)) (onTc (τ := Cert.IndexQueryRefIdeal.τ) (Cert.IndexQueryRefIdeal.main (F := Ideal))) ⟨m, fun _ => 0, g⟩ (fun r => (∀ c : Dev Cert.IndexQueryRefIdeal.nD,
      r.2.mem ((c.tc : Thread Cert.IndexQueryRefIdeal.nD Cert.IndexQueryRefIdeal.τ).loc Cert.IndexQueryRefIdeal.main_arg0) = m ((c.tc : Thread Cert.IndexQueryRefIdeal.nD Cert.IndexQueryRefIdeal.τ).loc Cert.IndexQueryRefIdeal.main_arg0)
      ∧ r.2.mem ((c.tc : Thread Cert.IndexQueryRefIdeal.nD Cert.IndexQueryRefIdeal.τ).loc Cert.IndexQueryRefIdeal.main_arg1) = m ((c.tc : Thread Cert.IndexQueryRefIdeal.nD Cert.IndexQueryRefIdeal.τ).loc Cert.IndexQueryRefIdeal.main_arg1))
      ∧ r.2.sem = fun _ => 0)

def quiescent_IndexKey [hIndexKey : Cert.IndexKey.Facts] : Prop :=
  ∀ (m : (ℓ : Loc Cert.IndexKey.nD Cert.IndexKey.τ Cert.IndexKey.sig) → Buf (Elt Bits) ℓ) (g : Dev Cert.IndexKey.nD → PrngReg), Pre_IndexKey m →
    θ_run (Cert.IndexKey.defs (F := Bits)) (onTc (τ := Cert.IndexKey.τ) (Cert.IndexKey.main (F := Bits))) ⟨m, fun _ => 0, g⟩ (fun r => (∀ c : Dev Cert.IndexKey.nD,
      r.2.mem ((c.tc : Thread Cert.IndexKey.nD Cert.IndexKey.τ).loc Cert.IndexKey.main_arg0) = m ((c.tc : Thread Cert.IndexKey.nD Cert.IndexKey.τ).loc Cert.IndexKey.main_arg0)
      ∧ r.2.mem ((c.tc : Thread Cert.IndexKey.nD Cert.IndexKey.τ).loc Cert.IndexKey.main_arg1) = m ((c.tc : Thread Cert.IndexKey.nD Cert.IndexKey.τ).loc Cert.IndexKey.main_arg1))
      ∧ r.2.sem = fun _ => 0)

def quiescent_IndexKeyIdeal [hIndexKeyIdeal : Cert.IndexKeyIdeal.Facts] : Prop :=
  ∀ (m : (ℓ : Loc Cert.IndexKeyIdeal.nD Cert.IndexKeyIdeal.τ Cert.IndexKeyIdeal.sig) → Buf (Elt Ideal) ℓ) (g : Dev Cert.IndexKeyIdeal.nD → PrngReg), Pre_IndexKeyIdeal m →
    θ_run (Cert.IndexKeyIdeal.defs (F := Ideal)) (onTc (τ := Cert.IndexKeyIdeal.τ) (Cert.IndexKeyIdeal.main (F := Ideal))) ⟨m, fun _ => 0, g⟩ (fun r => (∀ c : Dev Cert.IndexKeyIdeal.nD,
      r.2.mem ((c.tc : Thread Cert.IndexKeyIdeal.nD Cert.IndexKeyIdeal.τ).loc Cert.IndexKeyIdeal.main_arg0) = m ((c.tc : Thread Cert.IndexKeyIdeal.nD Cert.IndexKeyIdeal.τ).loc Cert.IndexKeyIdeal.main_arg0)
      ∧ r.2.mem ((c.tc : Thread Cert.IndexKeyIdeal.nD Cert.IndexKeyIdeal.τ).loc Cert.IndexKeyIdeal.main_arg1) = m ((c.tc : Thread Cert.IndexKeyIdeal.nD Cert.IndexKeyIdeal.τ).loc Cert.IndexKeyIdeal.main_arg1))
      ∧ r.2.sem = fun _ => 0)

def quiescent_IndexKeyRefIdeal [hIndexKeyRefIdeal : Cert.IndexKeyRefIdeal.Facts] : Prop :=
  ∀ (m : (ℓ : Loc Cert.IndexKeyRefIdeal.nD Cert.IndexKeyRefIdeal.τ Cert.IndexKeyRefIdeal.sig) → Buf (Elt Ideal) ℓ) (g : Dev Cert.IndexKeyRefIdeal.nD → PrngReg), Pre_IndexKeyRefIdeal m →
    θ_run (Cert.IndexKeyRefIdeal.defs (F := Ideal)) (onTc (τ := Cert.IndexKeyRefIdeal.τ) (Cert.IndexKeyRefIdeal.main (F := Ideal))) ⟨m, fun _ => 0, g⟩ (fun r => (∀ c : Dev Cert.IndexKeyRefIdeal.nD,
      r.2.mem ((c.tc : Thread Cert.IndexKeyRefIdeal.nD Cert.IndexKeyRefIdeal.τ).loc Cert.IndexKeyRefIdeal.main_arg0) = m ((c.tc : Thread Cert.IndexKeyRefIdeal.nD Cert.IndexKeyRefIdeal.τ).loc Cert.IndexKeyRefIdeal.main_arg0)
      ∧ r.2.mem ((c.tc : Thread Cert.IndexKeyRefIdeal.nD Cert.IndexKeyRefIdeal.τ).loc Cert.IndexKeyRefIdeal.main_arg1) = m ((c.tc : Thread Cert.IndexKeyRefIdeal.nD Cert.IndexKeyRefIdeal.τ).loc Cert.IndexKeyRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v13) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v8) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ffn_FfnIdeal : Prop :=
  True

def algebraic_FfnIdeal_FfnRefIdeal [hFfnIdeal : Cert.FfnIdeal.Facts] [hFfnRefIdeal : Cert.FfnRefIdeal.Facts] [hPre_blocks_named : Cert.Pre_blocks_named.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Combine_CombineIdeal : Prop :=
  True

def algebraic_CombineIdeal_CombineRefIdeal [hCombineIdeal : Cert.CombineIdeal.Facts] [hCombineRefIdeal : Cert.CombineRefIdeal.Facts] [hPre_rows_named : Cert.Pre_rows_named.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v17) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v77)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v77) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v35) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_IndexQuery_IndexQueryIdeal : Prop :=
  True

def algebraic_IndexQueryIdeal_IndexQueryRefIdeal [hIndexQueryIdeal : Cert.IndexQueryIdeal.Facts] [hIndexQueryRefIdeal : Cert.IndexQueryRefIdeal.Facts] : Prop :=
  ∀ (m : (ℓ : Loc Cert.IndexQueryIdeal.nD Cert.IndexQueryIdeal.τ Cert.IndexQueryIdeal.sig) → Buf (Elt Ideal) ℓ) (g : Dev Cert.IndexQueryIdeal.nD → PrngReg)
    (m' : (ℓ : Loc Cert.IndexQueryRefIdeal.nD Cert.IndexQueryRefIdeal.τ Cert.IndexQueryRefIdeal.sig) → Buf (Elt Ideal) ℓ) (g' : Dev Cert.IndexQueryRefIdeal.nD → PrngReg), Pre_IndexQueryIdeal m →
    (∀ c : Dev Cert.IndexQueryIdeal.nD,
      m' ((c.tc : Thread Cert.IndexQueryRefIdeal.nD Cert.IndexQueryRefIdeal.τ).loc Cert.IndexQueryRefIdeal.main_arg0) = m ((c.tc : Thread Cert.IndexQueryIdeal.nD Cert.IndexQueryIdeal.τ).loc Cert.IndexQueryIdeal.main_arg0)
      ∧ m' ((c.tc : Thread Cert.IndexQueryRefIdeal.nD Cert.IndexQueryRefIdeal.τ).loc Cert.IndexQueryRefIdeal.main_arg1) = m ((c.tc : Thread Cert.IndexQueryIdeal.nD Cert.IndexQueryIdeal.τ).loc Cert.IndexQueryIdeal.main_arg1)) →
    ∃ (v0 : (c : Dev Cert.IndexQueryIdeal.nD) → Buf (Elt Ideal) ((c.tc : Thread Cert.IndexQueryIdeal.nD Cert.IndexQueryIdeal.τ).loc Cert.IndexQueryIdeal.main_v77)),
      θ_run (Cert.IndexQueryIdeal.defs (F := Ideal)) (onTc (τ := Cert.IndexQueryIdeal.τ) (Cert.IndexQueryIdeal.main (F := Ideal))) ⟨m, fun _ => 0, g⟩ (fun r => ∀ c : Dev Cert.IndexQueryIdeal.nD,
          r.2.mem ((c.tc : Thread Cert.IndexQueryIdeal.nD Cert.IndexQueryIdeal.τ).loc Cert.IndexQueryIdeal.main_v77) = v0 c
          ∧ r.2.mem ((c.tc : Thread Cert.IndexQueryIdeal.nD Cert.IndexQueryIdeal.τ).loc Cert.IndexQueryIdeal.main_arg0) = m ((c.tc : Thread Cert.IndexQueryIdeal.nD Cert.IndexQueryIdeal.τ).loc Cert.IndexQueryIdeal.main_arg0)
          ∧ r.2.mem ((c.tc : Thread Cert.IndexQueryIdeal.nD Cert.IndexQueryIdeal.τ).loc Cert.IndexQueryIdeal.main_arg1) = m ((c.tc : Thread Cert.IndexQueryIdeal.nD Cert.IndexQueryIdeal.τ).loc Cert.IndexQueryIdeal.main_arg1))
      ∧ θ_run (Cert.IndexQueryRefIdeal.defs (F := Ideal)) (onTc (τ := Cert.IndexQueryRefIdeal.τ) (Cert.IndexQueryRefIdeal.main (F := Ideal))) ⟨m', fun _ => 0, g'⟩ (fun r => ∀ c : Dev Cert.IndexQueryRefIdeal.nD,
          r.2.mem ((c.tc : Thread Cert.IndexQueryRefIdeal.nD Cert.IndexQueryRefIdeal.τ).loc Cert.IndexQueryRefIdeal.main_v35) = v0 c
          ∧ r.2.mem ((c.tc : Thread Cert.IndexQueryRefIdeal.nD Cert.IndexQueryRefIdeal.τ).loc Cert.IndexQueryRefIdeal.main_arg0) = m' ((c.tc : Thread Cert.IndexQueryRefIdeal.nD Cert.IndexQueryRefIdeal.τ).loc Cert.IndexQueryRefIdeal.main_arg0)
          ∧ r.2.mem ((c.tc : Thread Cert.IndexQueryRefIdeal.nD Cert.IndexQueryRefIdeal.τ).loc Cert.IndexQueryRefIdeal.main_arg1) = m' ((c.tc : Thread Cert.IndexQueryRefIdeal.nD Cert.IndexQueryRefIdeal.τ).loc Cert.IndexQueryRefIdeal.main_arg1))

def preserves_IndexKey_IndexKeyIdeal : Prop :=
  True

def algebraic_IndexKeyIdeal_IndexKeyRefIdeal [hIndexKeyIdeal : Cert.IndexKeyIdeal.Facts] [hIndexKeyRefIdeal : Cert.IndexKeyRefIdeal.Facts] : Prop :=
  ∀ (m : (ℓ : Loc Cert.IndexKeyIdeal.nD Cert.IndexKeyIdeal.τ Cert.IndexKeyIdeal.sig) → Buf (Elt Ideal) ℓ) (g : Dev Cert.IndexKeyIdeal.nD → PrngReg)
    (m' : (ℓ : Loc Cert.IndexKeyRefIdeal.nD Cert.IndexKeyRefIdeal.τ Cert.IndexKeyRefIdeal.sig) → Buf (Elt Ideal) ℓ) (g' : Dev Cert.IndexKeyRefIdeal.nD → PrngReg), Pre_IndexKeyIdeal m →
    (∀ c : Dev Cert.IndexKeyIdeal.nD,
      m' ((c.tc : Thread Cert.IndexKeyRefIdeal.nD Cert.IndexKeyRefIdeal.τ).loc Cert.IndexKeyRefIdeal.main_arg0) = m ((c.tc : Thread Cert.IndexKeyIdeal.nD Cert.IndexKeyIdeal.τ).loc Cert.IndexKeyIdeal.main_arg0)
      ∧ m' ((c.tc : Thread Cert.IndexKeyRefIdeal.nD Cert.IndexKeyRefIdeal.τ).loc Cert.IndexKeyRefIdeal.main_arg1) = m ((c.tc : Thread Cert.IndexKeyIdeal.nD Cert.IndexKeyIdeal.τ).loc Cert.IndexKeyIdeal.main_arg1)) →
    ∃ (v0 : (c : Dev Cert.IndexKeyIdeal.nD) → Buf (Elt Ideal) ((c.tc : Thread Cert.IndexKeyIdeal.nD Cert.IndexKeyIdeal.τ).loc Cert.IndexKeyIdeal.main_v90)) (v1 : (c : Dev Cert.IndexKeyIdeal.nD) → Buf (Elt Ideal) ((c.tc : Thread Cert.IndexKeyIdeal.nD Cert.IndexKeyIdeal.τ).loc Cert.IndexKeyIdeal.main_v92)),
      θ_run (Cert.IndexKeyIdeal.defs (F := Ideal)) (onTc (τ := Cert.IndexKeyIdeal.τ) (Cert.IndexKeyIdeal.main (F := Ideal))) ⟨m, fun _ => 0, g⟩ (fun r => ∀ c : Dev Cert.IndexKeyIdeal.nD,
          r.2.mem ((c.tc : Thread Cert.IndexKeyIdeal.nD Cert.IndexKeyIdeal.τ).loc Cert.IndexKeyIdeal.main_v90) = v0 c
          ∧ r.2.mem ((c.tc : Thread Cert.IndexKeyIdeal.nD Cert.IndexKeyIdeal.τ).loc Cert.IndexKeyIdeal.main_v92) = v1 c
          ∧ r.2.mem ((c.tc : Thread Cert.IndexKeyIdeal.nD Cert.IndexKeyIdeal.τ).loc Cert.IndexKeyIdeal.main_arg0) = m ((c.tc : Thread Cert.IndexKeyIdeal.nD Cert.IndexKeyIdeal.τ).loc Cert.IndexKeyIdeal.main_arg0)
          ∧ r.2.mem ((c.tc : Thread Cert.IndexKeyIdeal.nD Cert.IndexKeyIdeal.τ).loc Cert.IndexKeyIdeal.main_arg1) = m ((c.tc : Thread Cert.IndexKeyIdeal.nD Cert.IndexKeyIdeal.τ).loc Cert.IndexKeyIdeal.main_arg1))
      ∧ θ_run (Cert.IndexKeyRefIdeal.defs (F := Ideal)) (onTc (τ := Cert.IndexKeyRefIdeal.τ) (Cert.IndexKeyRefIdeal.main (F := Ideal))) ⟨m', fun _ => 0, g'⟩ (fun r => ∀ c : Dev Cert.IndexKeyRefIdeal.nD,
          r.2.mem ((c.tc : Thread Cert.IndexKeyRefIdeal.nD Cert.IndexKeyRefIdeal.τ).loc Cert.IndexKeyRefIdeal.main_v35) = v0 c
          ∧ r.2.mem ((c.tc : Thread Cert.IndexKeyRefIdeal.nD Cert.IndexKeyRefIdeal.τ).loc Cert.IndexKeyRefIdeal.main_v38) = v1 c
          ∧ r.2.mem ((c.tc : Thread Cert.IndexKeyRefIdeal.nD Cert.IndexKeyRefIdeal.τ).loc Cert.IndexKeyRefIdeal.main_arg0) = m' ((c.tc : Thread Cert.IndexKeyRefIdeal.nD Cert.IndexKeyRefIdeal.τ).loc Cert.IndexKeyRefIdeal.main_arg0)
          ∧ r.2.mem ((c.tc : Thread Cert.IndexKeyRefIdeal.nD Cert.IndexKeyRefIdeal.τ).loc Cert.IndexKeyRefIdeal.main_arg1) = m' ((c.tc : Thread Cert.IndexKeyRefIdeal.nD Cert.IndexKeyRefIdeal.τ).loc Cert.IndexKeyRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v3)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v3) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v21) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v7)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v7) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v15) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def Claim : Prop :=
  ∃ (hGlu : Cert.Glu.Facts) (hGluIdeal : Cert.GluIdeal.Facts) (hGluRefIdeal : Cert.GluRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hCombine : Cert.Combine.Facts) (hCombineIdeal : Cert.CombineIdeal.Facts) (hCombineRefIdeal : Cert.CombineRefIdeal.Facts) (hQuery : Cert.Query.Facts) (hQueryIdeal : Cert.QueryIdeal.Facts) (hQueryRefIdeal : Cert.QueryRefIdeal.Facts) (hIndexQuery : Cert.IndexQuery.Facts) (hIndexQueryIdeal : Cert.IndexQueryIdeal.Facts) (hIndexQueryRefIdeal : Cert.IndexQueryRefIdeal.Facts) (hIndexKey : Cert.IndexKey.Facts) (hIndexKeyIdeal : Cert.IndexKeyIdeal.Facts) (hIndexKeyRefIdeal : Cert.IndexKeyRefIdeal.Facts) (hNormMod : Cert.NormMod.Facts) (hNormModIdeal : Cert.NormModIdeal.Facts) (hNormModRefIdeal : Cert.NormModRefIdeal.Facts) (hAdaMod : Cert.AdaMod.Facts) (hAdaModIdeal : Cert.AdaModIdeal.Facts) (hAdaModRefIdeal : Cert.AdaModRefIdeal.Facts) (hPre_blocks_named : Cert.Pre_blocks_named.Facts) (hPre_rows_named : Cert.Pre_rows_named.Facts),
    quiescent_Glu (hGlu := hGlu)
    ∧ quiescent_GluIdeal (hGluIdeal := hGluIdeal)
    ∧ quiescent_GluRefIdeal (hGluRefIdeal := hGluRefIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn) (hPre_blocks_named := hPre_blocks_named)
    ∧ quiescent_FfnIdeal (hFfnIdeal := hFfnIdeal) (hPre_blocks_named := hPre_blocks_named)
    ∧ quiescent_FfnRefIdeal (hFfnRefIdeal := hFfnRefIdeal) (hPre_blocks_named := hPre_blocks_named)
    ∧ quiescent_Combine (hCombine := hCombine) (hPre_rows_named := hPre_rows_named)
    ∧ quiescent_CombineIdeal (hCombineIdeal := hCombineIdeal) (hPre_rows_named := hPre_rows_named)
    ∧ quiescent_CombineRefIdeal (hCombineRefIdeal := hCombineRefIdeal) (hPre_rows_named := hPre_rows_named)
    ∧ quiescent_Query (hQuery := hQuery)
    ∧ quiescent_QueryIdeal (hQueryIdeal := hQueryIdeal)
    ∧ quiescent_QueryRefIdeal (hQueryRefIdeal := hQueryRefIdeal)
    ∧ quiescent_IndexQuery (hIndexQuery := hIndexQuery)
    ∧ quiescent_IndexQueryIdeal (hIndexQueryIdeal := hIndexQueryIdeal)
    ∧ quiescent_IndexQueryRefIdeal (hIndexQueryRefIdeal := hIndexQueryRefIdeal)
    ∧ quiescent_IndexKey (hIndexKey := hIndexKey)
    ∧ quiescent_IndexKeyIdeal (hIndexKeyIdeal := hIndexKeyIdeal)
    ∧ quiescent_IndexKeyRefIdeal (hIndexKeyRefIdeal := hIndexKeyRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ preserves_Glu_GluIdeal
    ∧ algebraic_GluIdeal_GluRefIdeal (hGluIdeal := hGluIdeal) (hGluRefIdeal := hGluRefIdeal)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal) (hPre_blocks_named := hPre_blocks_named)
    ∧ preserves_Combine_CombineIdeal
    ∧ algebraic_CombineIdeal_CombineRefIdeal (hCombineIdeal := hCombineIdeal) (hCombineRefIdeal := hCombineRefIdeal) (hPre_rows_named := hPre_rows_named)
    ∧ preserves_Query_QueryIdeal
    ∧ algebraic_QueryIdeal_QueryRefIdeal (hQueryIdeal := hQueryIdeal) (hQueryRefIdeal := hQueryRefIdeal)
    ∧ preserves_IndexQuery_IndexQueryIdeal
    ∧ algebraic_IndexQueryIdeal_IndexQueryRefIdeal (hIndexQueryIdeal := hIndexQueryIdeal) (hIndexQueryRefIdeal := hIndexQueryRefIdeal)
    ∧ preserves_IndexKey_IndexKeyIdeal
    ∧ algebraic_IndexKeyIdeal_IndexKeyRefIdeal (hIndexKeyIdeal := hIndexKeyIdeal) (hIndexKeyRefIdeal := hIndexKeyRefIdeal)
    ∧ preserves_NormMod_NormModIdeal
    ∧ algebraic_NormModIdeal_NormModRefIdeal (hNormModIdeal := hNormModIdeal) (hNormModRefIdeal := hNormModRefIdeal)
    ∧ preserves_AdaMod_AdaModIdeal
    ∧ algebraic_AdaModIdeal_AdaModRefIdeal (hAdaModIdeal := hAdaModIdeal) (hAdaModRefIdeal := hAdaModRefIdeal)
-- ==== Pre_blocks_named.lean ====
abbrev S88 : Shape := ⟨1, ![88]⟩
abbrev S22528x2048 : Shape := ⟨2, ![22528, 2048]⟩
abbrev S22528x128 : Shape := ⟨2, ![22528, 128]⟩
abbrev S16x2048x512 : Shape := ⟨3, ![16, 2048, 512]⟩
abbrev S16x512x2048 : Shape := ⟨3, ![16, 512, 2048]⟩
abbrev S_ : Shape := ⟨0, ![]⟩

class Facts : Prop where
  bcast_S_S88 : S_.BroadcastsInDim S88 (![] : Fin 0 → Fin S88.rank)

variable [Facts]

def fn {F : FTy → Type} [FloatOps F] (main_arg0 : IVec S88 32) (main_arg1 : IVec S88 32) (main_arg2 : IVec S88 32) (main_arg3 : FVec F S22528x2048 .f32) (main_arg4 : FVec F S22528x128 .f32) (main_arg5 : FVec F S16x2048x512 .f32) (main_arg6 : FVec F S16x2048x512 .f32) (main_arg7 : FVec F S16x512x2048 .f32) : IVec S88 1 :=
  let main_c : IVec S_ 32 := constantI S_ 32 0#32
  let main_v0 : IVec S88 32 := broadcastInDim S88 ![] bcast_S_S88 main_c
  let main_v1 : IVec S88 1 := cmpi .sge main_arg0 main_v0
  let main_c_0 : IVec S_ 32 := constantI S_ 32 16#32
  let main_v2 : IVec S88 32 := broadcastInDim S88 ![] bcast_S_S88 main_c_0
  let main_v3 : IVec S88 1 := cmpi .slt main_arg0 main_v2
  let main_v4 : IVec S88 1 := andi main_v1 main_v3
  let main_c_1 : IVec S_ 32 := constantI S_ 32 0#32
  let main_v5 : IVec S88 32 := broadcastInDim S88 ![] bcast_S_S88 main_c_1
  let main_v6 : IVec S88 1 := cmpi .sge main_arg1 main_v5
  let main_v7 : IVec S88 1 := andi main_v4 main_v6
  let main_c_2 : IVec S_ 32 := constantI S_ 32 16#32
  let main_v8 : IVec S88 32 := broadcastInDim S88 ![] bcast_S_S88 main_c_2
  let main_v9 : IVec S88 1 := cmpi .slt main_arg1 main_v8
  let main_v10 : IVec S88 1 := andi main_v7 main_v9
  let main_c_3 : IVec S_ 32 := constantI S_ 32 0#32
  let main_v11 : IVec S88 32 := broadcastInDim S88 ![] bcast_S_S88 main_c_3
  let main_v12 : IVec S88 1 := cmpi .sge main_arg2 main_v11
  let main_v13 : IVec S88 1 := andi main_v10 main_v12
  let main_c_4 : IVec S_ 32 := constantI S_ 32 1#32
  let main_v14 : IVec S88 32 := broadcastInDim S88 ![] bcast_S_S88 main_c_4
  let main_v15 : IVec S88 1 := cmpi .sle main_arg2 main_v14
  let main_v16 : IVec S88 1 := andi main_v13 main_v15
  main_v16
-- ==== Pre_rows_named.lean ====
abbrev S16384 : Shape := ⟨1, ![16384]⟩
abbrev S16384x2048 : Shape := ⟨2, ![16384, 2048]⟩
abbrev S2048 : Shape := ⟨1, ![2048]⟩
abbrev S22528x2048 : Shape := ⟨2, ![22528, 2048]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S16384x2048 .f32) (main_arg2 : FVec F S2048 .f32) (main_arg3 : FVec F S2048 .f32) (main_arg4 : FVec F S22528x2048 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 22528#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Glu.lean ====
abbrev S16384x2048 : Shape := ⟨2, ![16384, 2048]⟩
abbrev S2048x4096 : Shape := ⟨2, ![2048, 4096]⟩
abbrev S4096 : Shape := ⟨1, ![4096]⟩
abbrev S1x4096 : Shape := ⟨2, ![1, 4096]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S1x4096, .f32⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S16384x2048 : Shape := ⟨2, ![16384, 2048]⟩
abbrev S2048x4096 : Shape := ⟨2, ![2048, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S4096, .f32⟩
  | .hbm, ⟨3, _⟩ => ⟨S16384x2048, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proj.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Ffn.lean ====
abbrev S88 : Shape := ⟨1, ![88]⟩
abbrev S22528x2048 : Shape := ⟨2, ![22528, 2048]⟩
abbrev S22528x128 : Shape := ⟨2, ![22528, 128]⟩
abbrev S16x2048x512 : Shape := ⟨3, ![16, 2048, 512]⟩
abbrev S16x512x2048 : Shape := ⟨3, ![16, 512, 2048]⟩
abbrev S256x2048 : Shape := ⟨2, ![256, 2048]⟩
abbrev S256x128 : Shape := ⟨2, ![256, 128]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩
abbrev S256x1 : Shape := ⟨2, ![256, 1]⟩

abbrev nBuf : Space → Nat
  | .hbm => 9
  | .vmem => 18
  | .smem => 3
  | _ => 0

abbrev bufTy : (tb : Table) → Fin (tcTables nBuf tb) → BufTy
  | .hbm, ⟨0, _⟩ => ⟨S22528x2048, .f32⟩
  | .hbm, ⟨1, _⟩ => ⟨S22528x128, .f32⟩
  | .hbm, ⟨2, _⟩ => ⟨S16x2048x512, .f32⟩
  | .hbm, ⟨3, _⟩ => ⟨S16x2048x512, .f32⟩
  | .hbm, ⟨4, _⟩ => ⟨S16x512x2048, .f32⟩
  | .hbm, ⟨5, _⟩ => ⟨S16x2048x512, .bf16⟩
  | .hbm, ⟨6, _⟩ => ⟨S16x2048x512, .bf16⟩
  | .hbm, ⟨7, _⟩ => ⟨S16x512x2048, .bf16⟩
  | .hbm, ⟨8, _⟩ => ⟨S22528x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x512x2048, .bf16⟩
  | .local _ .vmem, ⟨15, _⟩ => ⟨S1x512x2048, .bf16⟩
  | .local _ .vmem, ⟨16, _⟩ => ⟨S256x2048, .f32⟩
  | .local _ .vmem, ⟨17, _⟩ => ⟨S256x2048, .f32⟩
  | .local _ .smem, ⟨0, _⟩ => ⟨S88, .i32⟩
  | .local _ .smem, ⟨1, _⟩ => ⟨S88, .i32⟩
  | .local _ .smem, ⟨2, _⟩ => ⟨S88, .i32⟩
  | _, _ => ⟨S22528x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S88 : Shape := ⟨1, ![88]⟩
abbrev S22528x2048 : Shape := ⟨2, ![22528, 2048]⟩
abbrev S22528x128 : Shape := ⟨2, ![22528, 128]⟩
abbrev S16x2048x512 : Shape := ⟨3, ![16, 2048, 512]⟩
abbrev S16x512x2048 : Shape := ⟨3, ![16, 512, 2048]⟩
abbrev S88x256x2048 : Shape := ⟨3, ![88, 256, 2048]⟩
abbrev S88x256x128 : Shape := ⟨3, ![88, 256, 128]⟩
abbrev S88x1 : Shape := ⟨2, ![88, 1]⟩
abbrev S88x2048x512 : Shape := ⟨3, ![88, 2048, 512]⟩
abbrev S88x512x2048 : Shape := ⟨3, ![88, 512, 2048]⟩
abbrev S88x256x512 : Shape := ⟨3, ![88, 256, 512]⟩
abbrev S_ : Shape := ⟨0, ![]⟩
abbrev S88x256x1 : Shape := ⟨3, ![88, 256, 1]⟩
abbrev S88x1x1 : Shape := ⟨3, ![88, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S88, .i32⟩
  | .hbm, ⟨3, _⟩ => ⟨S22528x2048, .f32⟩
  | .hbm, ⟨4, _⟩ => ⟨S22528x128, .f32⟩
  | .hbm, ⟨5, _⟩ => ⟨S16x2048x512, .f32⟩
  | .hbm, ⟨6, _⟩ => ⟨S16x2048x512, .f32⟩
  | .hbm, ⟨7, _⟩ => ⟨S16x512x2048, .f32⟩
  | .hbm, ⟨8, _⟩ => ⟨S88x256x2048, .f32⟩
  | .hbm, ⟨9, _⟩ => ⟨S88x256x128, .f32⟩
  | .hbm, ⟨10, _⟩ => ⟨S88x1, .i32⟩
  | .hbm, ⟨11, _⟩ => ⟨S88x2048x512, .f32⟩
  | .hbm, ⟨12, _⟩ => ⟨S88x1, .i32⟩
  | .hbm, ⟨13, _⟩ => ⟨S88x2048x512, .f32⟩
  | .hbm, ⟨14, _⟩ => ⟨S88x1, .i32⟩
  | .hbm, ⟨15, _⟩ => ⟨S88x512x2048, .f32⟩
  | .hbm, ⟨16, _⟩ => ⟨S88x256x512, .f32⟩
  | .hbm, ⟨17, _⟩ => ⟨S88x256x512, .f32⟩
  | .hbm, ⟨18, _⟩ => ⟨S88x256x512, .f32⟩
  | .hbm, ⟨19, _⟩ => ⟨S_, .f32⟩
  | .hbm, ⟨20, _⟩ => ⟨S88x256x512, .f32⟩
  | .hbm, ⟨21, _⟩ => ⟨S88x256x512, .f32⟩
  | .hbm, ⟨22, _⟩ => ⟨S_, .f32⟩
  | .hbm, ⟨23, _⟩ => ⟨S88x256x512, .f32⟩
  | .hbm, ⟨24, _⟩ => ⟨S88x256x512, .f32⟩
  | .hbm, ⟨25, _⟩ => ⟨S88x256x512, .f32⟩
  | .hbm, ⟨26, _⟩ => ⟨S88x256x512, .f32⟩
  | .hbm, ⟨27, _⟩ => ⟨S88x256x512, .f32⟩
  | .hbm, ⟨28, _⟩ => ⟨S88x256x2048, .f32⟩
  | .hbm, ⟨29, _⟩ => ⟨S88x256x1, .f32⟩
  | .hbm, ⟨30, _⟩ => ⟨S88x256x2048, .f32⟩
  | .hbm, ⟨31, _⟩ => ⟨S88x256x2048, .f32⟩
  | .hbm, ⟨32, _⟩ => ⟨S88x1, .i32⟩
  | .hbm, ⟨33, _⟩ => ⟨S88x2048x512, .f32⟩
  | .hbm, ⟨34, _⟩ => ⟨S88x1, .i32⟩
  | .hbm, ⟨35, _⟩ => ⟨S88x2048x512, .f32⟩
  | .hbm, ⟨36, _⟩ => ⟨S88x1, .i32⟩
  | .hbm, ⟨37, _⟩ => ⟨S88x512x2048, .f32⟩
  | .hbm, ⟨38, _⟩ => ⟨S88x256x512, .f32⟩
  | .hbm, ⟨39, _⟩ => ⟨S88x256x512, .f32⟩
  | .hbm, ⟨40, _⟩ => ⟨S88x256x512, .f32⟩
  | .hbm, ⟨41, _⟩ => ⟨S_, .f32⟩
  | .hbm, ⟨42, _⟩ => ⟨S88x256x512, .f32⟩
  | .hbm, ⟨43, _⟩ => ⟨S88x256x512, .f32⟩
  | .hbm, ⟨44, _⟩ => ⟨S_, .f32⟩
  | .hbm, ⟨45, _⟩ => ⟨S88x256x512, .f32⟩
  | .hbm, ⟨46, _⟩ => ⟨S88x256x512, .f32⟩
  | .hbm, ⟨47, _⟩ => ⟨S88x256x512, .f32⟩
  | .hbm, ⟨48, _⟩ => ⟨S88x256x512, .f32⟩
  | .hbm, ⟨49, _⟩ => ⟨S88x256x512, .f32⟩
  | .hbm, ⟨50, _⟩ => ⟨S88x256x2048, .f32⟩
  | .hbm, ⟨51, _⟩ => ⟨S88x256x1, .f32⟩
  | .hbm, ⟨52, _⟩ => ⟨S88x256x2048, .f32⟩
  | .hbm, ⟨53, _⟩ => ⟨S88x256x2048, .f32⟩
  | .hbm, ⟨54, _⟩ => ⟨S88x256x2048, .f32⟩
  | .hbm, ⟨55, _⟩ => ⟨S88x1x1, .i32⟩
  | .hbm, ⟨56, _⟩ => ⟨S_, .i32⟩
  | .hbm, ⟨57, _⟩ => ⟨S88x1x1, .i32⟩
  | .hbm, ⟨58, _⟩ => ⟨S88x1x1, .i1⟩
  | .hbm, ⟨59, _⟩ => ⟨S_, .f32⟩
  | .hbm, ⟨60, _⟩ => ⟨S_, .f32⟩
  | .hbm, ⟨61, _⟩ => ⟨S88x256x2048, .i1⟩
  | .hbm, ⟨62, _⟩ => ⟨S88x256x2048, .f32⟩
  | .hbm, ⟨63, _⟩ => ⟨S88x256x2048, .f32⟩
  | .hbm, ⟨64, _⟩ => ⟨S22528x2048, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_v2 : Ref sig .tc := ⟨.hbm, 11, rfl⟩
abbrev main_call1_v0 : Ref sig .tc := ⟨.hbm, 12, rfl⟩
abbrev main_v3 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_call3_v0 : Ref sig .tc := ⟨.hbm, 17, rfl⟩
abbrev main_call3_v1 : Ref sig .tc := ⟨.hbm, 18, rfl⟩
abbrev main_call3_cst : Ref sig .tc := ⟨.hbm, 19, rfl⟩
abbrev main_call3_v2 : Ref sig .tc := ⟨.hbm, 20, rfl⟩
abbrev main_call3_v3 : Ref sig .tc := ⟨.hbm, 21, rfl⟩
abbrev main_call3_cst_0 : Ref sig .tc := ⟨.hbm, 22, rfl⟩
abbrev main_call3_v4 : Ref sig .tc := ⟨.hbm, 23, rfl⟩
abbrev main_call3_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call4_v0 : Ref sig .tc := ⟨.hbm, 32, rfl⟩
abbrev main_v13 : Ref sig .tc := ⟨.hbm, 33, rfl⟩
abbrev main_call5_v0 : Ref sig .tc := ⟨.hbm, 34, rfl⟩
abbrev main_v14 : Ref sig .tc := ⟨.hbm, 35, rfl⟩
abbrev main_call6_v0 : Ref sig .tc := ⟨.hbm, 36, rfl⟩
abbrev main_v15 : Ref sig .tc := ⟨.hbm, 37, rfl⟩
abbrev main_v16 : Ref sig .tc := ⟨.hbm, 38, rfl⟩
abbrev main_call7_v0 : Ref sig .tc := ⟨.hbm, 39, rfl⟩
abbrev main_call7_v1 : Ref sig .tc := ⟨.hbm, 40, rfl⟩
abbrev main_call7_cst : Ref sig .tc := ⟨.hbm, 41, rfl⟩
abbrev main_call7_v2 : Ref sig .tc := ⟨.hbm, 42, rfl⟩
abbrev main_call7_v3 : Ref sig .tc := ⟨.hbm, 43, rfl⟩
abbrev main_call7_cst_0 : Ref sig .tc := ⟨.hbm, 44, rfl⟩
abbrev main_call7_v4 : Ref sig .tc := ⟨.hbm, 45, rfl⟩
abbrev main_call7_v5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c : Ref sig .tc := ⟨.hbm, 56, rfl⟩
abbrev main_v26 : Ref sig .tc := ⟨.hbm, 57, rfl⟩
abbrev main_v27 : Ref sig .tc := ⟨.hbm, 58, rfl⟩
abbrev main_cst : Ref sig .tc := ⟨.hbm, 59, rfl⟩
abbrev main_call8_v0 : Ref sig .tc := ⟨.hbm, 60, rfl⟩
abbrev main_call8_v1 : Ref sig .tc := ⟨.hbm, 61, rfl⟩
abbrev main_call8_v2 : Ref sig .tc := ⟨.hbm, 62, rfl⟩
abbrev main_v28 : Ref sig .tc := ⟨.hbm, 63, rfl⟩
abbrev main_v29 : Ref sig .tc := ⟨.hbm, 64, rfl⟩

abbrev nD : Nat := 1
abbrev τ : Topo := Topo.v7x

variable {F : FTy → Type} [FloatOps F]
-- ==== Combine.lean ====
abbrev S16384 : Shape := ⟨1, ![16384]⟩
abbrev S16384x2048 : Shape := ⟨2, ![16384, 2048]⟩
abbrev S2048 : Shape := ⟨1, ![2048]⟩
abbrev S22528x2048 : Shape := ⟨2, ![22528, 2048]⟩
abbrev S1x2048 : Shape := ⟨2, ![1, 2048]⟩
abbrev S256x2048 : Shape := ⟨2, ![256, 2048]⟩
abbrev S_ : Shape := ⟨0, ![]⟩
abbrev S1 : Shape := ⟨1, ![1]⟩
abbrev S256 : Shape := ⟨1, ![256]⟩
abbrev S256x1 : Shape := ⟨2, ![256, 1]⟩

abbrev nBuf : Space → Nat
  | .hbm => 7
  | .vmem => 7
  | .smem => 1
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S22528x2048, .f32⟩
  | .hbm, ⟨4, _⟩ => ⟨S1x2048, .f32⟩
  | .hbm, ⟨5, _⟩ => ⟨S1x2048, .f32⟩
  | .hbm, ⟨6, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .smem, ⟨0, _⟩ => ⟨S16384, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32 : BitVec 32 := 8#32
  let v25 : BitVec 32 := Scalar.muli arg9 c8_i32
  let c0_i32_16 : BitVec 32 := 0#32
  let v26 : BitVec 32 := Scalar.addi v25 c0_i32_16
  let v27 : BitVec 32 := Scalar.addi v0 v26
  let v28 : Index := Scalar.indexCast v27
  ![v28.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v25 : BitVec 32 := Scalar.muli arg9 c8_i32
  let c0_i32_16 : BitVec 32 := 0#32
  let v26 : BitVec 32 := Scalar.addi v25 c0_i32_16
  let c0_i32_17 : BitVec 32 := 0#32
  ![v26.toNat, 0]
def k0_off3 (v29 : BitVec 32) : Fin 2 → Nat :=
  let c0_i32_18 : BitVec 32 := 0#32
  ![v29.toNat, 0]

def k0_chk1 (v29 : BitVec 32) : Prop :=
  (∀ a, (k0_off3 v29) a + S1x2048.size a ≤ S22528x2048.size a)
theorem k0_off3_inb : ∀ (v29 : BitVec 32) (k0_hw1 : k0_chk1 v29), ∀ a, (k0_off3 v29) a + S1x2048.size a ≤ S22528x2048.size a := fun v29 k0_hw1 => k0_hw1

def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_19 : BitVec 32 := 8#32
  let v32 : BitVec 32 := Scalar.muli arg9 c8_i32_19
  let c1_i32_20 : BitVec 32 := 1#32
  let v33 : BitVec 32 := Scalar.addi v32 c1_i32_20
  let v34 : BitVec 32 := Scalar.addi v0 v33
  let v35 : Index := Scalar.indexCast v34
  ![v35.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_19 : BitVec 32 := 8#32
  let v32 : BitVec 32 := Scalar.muli arg9 c8_i32_19
  let c1_i32_20 : BitVec 32 := 1#32
  let v33 : BitVec 32 := Scalar.addi v32 c1_i32_20
  let c0_i32_21 : BitVec 32 := 0#32
  ![v33.toNat, 0]
def k0_off6 (v36 : BitVec 32) : Fin 2 → Nat :=
  let c0_i32_22 : BitVec 32 := 0#32
  ![v36.toNat, 0]

def k0_chk2 (v36 : BitVec 32) : Prop :=
  (∀ a, (k0_off6 v36) a + S1x2048.size a ≤ S22528x2048.size a)
theorem k0_off6_inb : ∀ (v36 : BitVec 32) (k0_hw2 : k0_chk2 v36), ∀ a, (k0_off6 v36) a + S1x2048.size a ≤ S22528x2048.size a := fun v36 k0_hw2 => k0_hw2

def k0_off7 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_23 : BitVec 32 := 8#32
  let v39 : BitVec 32 := Scalar.muli arg9 c8_i32_23
  let c2_i32 : BitVec 32 := 2#32
  let v40 : BitVec 32 := Scalar.addi v39 c2_i32
  let v41 : BitVec 32 := Scalar.addi v0 v40
  let v42 : Index := Scalar.indexCast v41
  ![v42.toNat]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_23 : BitVec 32 := 8#32
  let v39 : BitVec 32 := Scalar.muli arg9 c8_i32_23
  let c2_i32 : BitVec 32 := 2#32
  let v40 : BitVec 32 := Scalar.addi v39 c2_i32
  let c0_i32_24 : BitVec 32 := 0#32
  ![v40.toNat, 0]
def k0_off9 (v43 : BitVec 32) : Fin 2 → Nat :=
  let c0_i32_25 : BitVec 32 := 0#32
  ![v43.toNat, 0]

def k0_chk3 (v43 : BitVec 32) : Prop :=
  (∀ a, (k0_off9 v43) a + S1x2048.size a ≤ S22528x2048.size a)
theorem k0_off9_inb : ∀ (v43 : BitVec 32) (k0_hw3 : k0_chk3 v43), ∀ a, (k0_off9 v43) a + S1x2048.size a ≤ S22528x2048.size a := fun v43 k0_hw3 => k0_hw3

def k0_off10 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_26 : BitVec 32 := 8#32
  let v46 : BitVec 32 := Scalar.muli arg9 c8_i32_26
  let c3_i32 : BitVec 32 := 3#32
  let v47 : BitVec 32 := Scalar.addi v46 c3_i32
  let v48 : BitVec 32 := Scalar.addi v0 v47
  let v49 : Index := Scalar.indexCast v48
  ![v49.toNat]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_26 : BitVec 32 := 8#32
  let v46 : BitVec 32 := Scalar.muli arg9 c8_i32_26
  let c3_i32 : BitVec 32 := 3#32
  let v47 : BitVec 32 := Scalar.addi v46 c3_i32
  let c0_i32_27 : BitVec 32 := 0#32
  ![v47.toNat, 0]
def k0_off12 (v50 : BitVec 32) : Fin 2 → Nat :=
  let c0_i32_28 : BitVec 32 := 0#32
  ![v50.toNat, 0]

def k0_chk4 (v50 : BitVec 32) : Prop :=
  (∀ a, (k0_off12 v50) a + S1x2048.size a ≤ S22528x2048.size a)
theorem k0_off12_inb : ∀ (v50 : BitVec 32) (k0_hw4 : k0_chk4 v50), ∀ a, (k0_off12 v50) a + S1x2048.size a ≤ S22528x2048.size a := fun v50 k0_hw4 => k0_hw4

def k0_off13 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_29 : BitVec 32 := 8#32
  let v53 : BitVec 32 := Scalar.muli arg9 c8_i32_29
  let c4_i32 : BitVec 32 := 4#32
  let v54 : BitVec 32 := Scalar.addi v53 c4_i32
  let v55 : BitVec 32 := Scalar.addi v0 v54
  let v56 : Index := Scalar.indexCast v55
  ![v56.toNat]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_29 : BitVec 32 := 8#32
  let v53 : BitVec 32 := Scalar.muli arg9 c8_i32_29
  let c4_i32 : BitVec 32 := 4#32
  let v54 : BitVec 32 := Scalar.addi v53 c4_i32
  let c0_i32_30 : BitVec 32 := 0#32
  ![v54.toNat, 0]
def k0_off15 (v57 : BitVec 32) : Fin 2 → Nat :=
  let c0_i32_31 : BitVec 32 := 0#32
  ![v57.toNat, 0]

def k0_chk5 (v57 : BitVec 32) : Prop :=
  (∀ a, (k0_off15 v57) a + S1x2048.size a ≤ S22528x2048.size a)
theorem k0_off15_inb : ∀ (v57 : BitVec 32) (k0_hw5 : k0_chk5 v57), ∀ a, (k0_off15 v57) a + S1x2048.size a ≤ S22528x2048.size a := fun v57 k0_hw5 => k0_hw5

def k0_off16 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_32 : BitVec 32 := 8#32
  let v60 : BitVec 32 := Scalar.muli arg9 c8_i32_32
  let c5_i32 : BitVec 32 := 5#32
  let v61 : BitVec 32 := Scalar.addi v60 c5_i32
  let v62 : BitVec 32 := Scalar.addi v0 v61
  let v63 : Index := Scalar.indexCast v62
  ![v63.toNat]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_32 : BitVec 32 := 8#32
  let v60 : BitVec 32 := Scalar.muli arg9 c8_i32_32
  let c5_i32 : BitVec 32 := 5#32
  let v61 : BitVec 32 := Scalar.addi v60 c5_i32
  let c0_i32_33 : BitVec 32 := 0#32
  ![v61.toNat, 0]
def k0_off18 (v64 : BitVec 32) : Fin 2 → Nat :=
  let c0_i32_34 : BitVec 32 := 0#32
  ![v64.toNat, 0]

def k0_chk6 (v64 : BitVec 32) : Prop :=
  (∀ a, (k0_off18 v64) a + S1x2048.size a ≤ S22528x2048.size a)
theorem k0_off18_inb : ∀ (v64 : BitVec 32) (k0_hw6 : k0_chk6 v64), ∀ a, (k0_off18 v64) a + S1x2048.size a ≤ S22528x2048.size a := fun v64 k0_hw6 => k0_hw6

def k0_off19 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_35 : BitVec 32 := 8#32
  let v67 : BitVec 32 := Scalar.muli arg9 c8_i32_35
  let c6_i32 : BitVec 32 := 6#32
  let v68 : BitVec 32 := Scalar.addi v67 c6_i32
  let v69 : BitVec 32 := Scalar.addi v0 v68
  let v70 : Index := Scalar.indexCast v69
  ![v70.toNat]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_35 : BitVec 32 := 8#32
  let v67 : BitVec 32 := Scalar.muli arg9 c8_i32_35
  let c6_i32 : BitVec 32 := 6#32
  let v68 : BitVec 32 := Scalar.addi v67 c6_i32
  let c0_i32_36 : BitVec 32 := 0#32
  ![v68.toNat, 0]
def k0_off21 (v71 : BitVec 32) : Fin 2 → Nat :=
  let c0_i32_37 : BitVec 32 := 0#32
  ![v71.toNat, 0]

def k0_chk7 (v71 : BitVec 32) : Prop :=
  (∀ a, (k0_off21 v71) a + S1x2048.size a ≤ S22528x2048.size a)
theorem k0_off21_inb : ∀ (v71 : BitVec 32) (k0_hw7 : k0_chk7 v71), ∀ a, (k0_off21 v71) a + S1x2048.size a ≤ S22528x2048.size a := fun v71 k0_hw7 => k0_hw7

def k0_off22 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg9 : BitVec 32 := Scf.iv c0_i32 c1_i32 k0_t1
  let c8_i32_38 : BitVec 32 := 8#32
  let v74 : BitVec 32 := Scalar.muli arg9 c8_i32_38
  let c7_i32 : BitVec 32 := 7#32
  let v75 : BitVec 32 := Scalar.addi v74 c7_i32
  let v76 : BitVec 32 := Scalar.addi v0 v75
  let v77 : Index := Scalar.indexCast v76
  ![v77.toNat]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_38 : BitVec 32 := 8#32
  let v74 : BitVec 32 := Scalar.muli arg9 c8_i32_38
  let c7_i32 : BitVec 32 := 7#32
  let v75 : BitVec 32 := Scalar.addi v74 c7_i32
  let c0_i32_39 : BitVec 32 := 0#32
  ![v75.toNat, 0]
def k0_off24 (v78 : BitVec 32) : Fin 2 → Nat :=
  let c0_i32_40 : BitVec 32 := 0#32
  ![v78.toNat, 0]

def k0_chk8 (v78 : BitVec 32) : Prop :=
  (∀ a, (k0_off24 v78) a + S1x2048.size a ≤ S22528x2048.size a)
theorem k0_off24_inb : ∀ (v78 : BitVec 32) (k0_hw8 : k0_chk8 v78), ∀ a, (k0_off24 v78) a + S1x2048.size a ≤ S22528x2048.size a := fun v78 k0_hw8 => k0_hw8

@[reducible] def k0_t2_loop : Scf.Loop 32 :=
  let c0_i32_1 : BitVec 32 := 0#32
  let c32_i32_2 : BitVec 32 := 32#32
  let v2 : BitVec 32 := Scalar.addi c0_i32_1 c32_i32_2
  let c1_i32_3 : BitVec 32 := 1#32
  ⟨c0_i32_1, v2, c1_i32_3⟩
def k0_off25 (k0_t2 : Fin k0_t2_loop.trips) (c0_i32_16 : BitVec 32) : Fin 2 → Nat :=
  let c0_i32_1 : BitVec 32 := 0#32
  let c1_i32_3 : BitVec 32 := 1#32
  let arg9 : BitVec 32 := Scf.iv c0_i32_1 c1_i32_3 k0_t2
  let c8_i32 : BitVec 32 := 8#32
  let v25 : BitVec 32 := Scalar.muli arg9 c8_i32
  let v26 : BitVec 32 := Scalar.addi v25 c0_i32_16
  let c0_i32_17 : BitVec 32 := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S16384 : Shape := ⟨1, ![16384]⟩
abbrev S16384x2048 : Shape := ⟨2, ![16384, 2048]⟩
abbrev S2048 : Shape := ⟨1, ![2048]⟩
abbrev S22528x2048 : Shape := ⟨2, ![22528, 2048]⟩
abbrev S16384x1 : Shape := ⟨2, ![16384, 1]⟩
abbrev S1x2048 : Shape := ⟨2, ![1, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S22528x2048, .f32⟩
  | .hbm, ⟨5, _⟩ => ⟨S16384x1, .i32⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Query.lean ====
abbrev S16384x2048 : Shape := ⟨2, ![16384, 2048]⟩
abbrev S2048x4176 : Shape := ⟨2, ![2048, 4176]⟩
abbrev S16384 : Shape := ⟨1, ![16384]⟩
abbrev S16384x1 : Shape := ⟨2, ![16384, 1]⟩
abbrev S128 : Shape := ⟨1, ![128]⟩
abbrev S64 : Shape := ⟨1, ![64]⟩
abbrev S_ : Shape := ⟨0, ![]⟩
abbrev S1x64 : Shape := ⟨2, ![1, 64]⟩
abbrev S16384x64 : Shape := ⟨2, ![16384, 64]⟩
abbrev S128x1 : Shape := ⟨2, ![128, 1]⟩
abbrev S16384x128 : Shape := ⟨2, ![16384, 128]⟩
abbrev S1x128 : Shape := ⟨2, ![1, 128]⟩
abbrev S32 : Shape := ⟨1, ![32]⟩
abbrev S1x32 : Shape := ⟨2, ![1, 32]⟩
abbrev S16384x32 : Shape := ⟨2, ![16384, 32]⟩
abbrev S512x2048 : Shape := ⟨2, ![512, 2048]⟩
abbrev S2048x512 : Shape := ⟨2, ![2048, 512]⟩
abbrev S512x128 : Shape := ⟨2, ![512, 128]⟩
abbrev S512x512 : Shape := ⟨2, ![512, 512]⟩

abbrev nBuf : Space → Nat
  | .hbm => 228
  | .vmem => 10
  | .smem => 0
  | _ => 0

abbrev hbmTy0_0 (i : Nat) : BufTy := match i % 128 with
  | 0 => ⟨S16384x2048, .bf16⟩
  | 1 => ⟨S2048x4176, .f32⟩
  | 2 => ⟨S16384, .i32⟩
  | 3 => ⟨S16384, .f32⟩
  | 4 => ⟨S16384x1, .f32⟩
  | 5 => ⟨S128, .i32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S1x64, .f32⟩
  | 15 => ⟨S16384x64, .f32⟩
  | 16 => ⟨S16384x64, .f32⟩
  | 17 => ⟨S16384x64, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S16384x64, .f32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i1⟩
  | 57 => ⟨S128, .i1⟩
  | 58 => ⟨S128, .i1⟩
  | 59 => ⟨S128, .i1⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S16384x128, .f32⟩
  | 72 => ⟨S16384x64, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i1⟩
  | 87 => ⟨S_, .i32⟩
  | 88 => ⟨S_, .i1⟩
  | 89 => ⟨S128, .i1⟩
  | 90 => ⟨S128, .i1⟩
  | 91 => ⟨S128, .i1⟩
  | 92 => ⟨S128, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S16384x128, .f32⟩
  | 104 => ⟨S_, .i32⟩
  | 105 => ⟨S128, .i32⟩
  | 106 => ⟨S128, .i1⟩
  | 107 => ⟨S_, .f32⟩
  | 108 => ⟨S_, .f32⟩
  | 109 => ⟨S128, .f32⟩
  | 110 => ⟨S128, .f32⟩
  | 111 => ⟨S128, .f32⟩
  | 112 => ⟨S1x128, .f32⟩
  | 113 => ⟨S1x128, .f32⟩
  | 114 => ⟨S16384x128, .f32⟩
  | 115 => ⟨S16384x128, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S1x32, .f32⟩
  | 125 => ⟨S16384x32, .f32⟩
  | 126 => ⟨S16384x32, .f32⟩
  | 127 => ⟨S16384x32, .f32⟩
  | _ => ⟨S16384x2048, .bf16⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S_, .i32⟩
  | 15 => ⟨S_, .i1⟩
  | 16 => ⟨S128, .i1⟩
  | 17 => ⟨S128, .i1⟩
  | 18 => ⟨S128, .i1⟩
  | 19 => ⟨S128, .i32⟩
  | 20 => ⟨S128, .i32⟩
  | 21 => ⟨S128, .i32⟩
  | 22 => ⟨S16384x32, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S16384x128, .f32⟩
  | 54 => ⟨S16384x32, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i1⟩
  | 69 => ⟨S_, .i32⟩
  | 70 => ⟨S_, .i1⟩
  | 71 => ⟨S128, .i1⟩
  | 72 => ⟨S128, .i1⟩
  | 73 => ⟨S128, .i1⟩
  | 74 => ⟨S128, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S16384x128, .f32⟩
  | 86 => ⟨S_, .i32⟩
  | 87 => ⟨S128, .i32⟩
  | 88 => ⟨S128, .i1⟩
  | 89 => ⟨S_, .f32⟩
  | 90 => ⟨S_, .f32⟩
  | 91 => ⟨S128, .f32⟩
  | 92 => ⟨S128, .f32⟩
  | 93 => ⟨S128, .f32⟩
  | 94 => ⟨S1x128, .f32⟩
  | 95 => ⟨S1x128, .f32⟩
  | 96 => ⟨S16384x128, .f32⟩
  | 97 => ⟨S16384x128, .f32⟩
  | 98 => ⟨S2048x4176, .bf16⟩
  | 99 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v16 : Ref sig .tc := ⟨.hbm, 62, rfl⟩
abbrev main_c_2 : Ref sig .tc := ⟨.hbm, 63, rfl⟩
abbrev main_v17 : Ref sig .tc := ⟨.hbm, 64, rfl⟩
abbrev main_v18 : Ref sig .tc := ⟨.hbm, 65, rfl⟩
abbrev main_c_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_1 : Ref sig .tc := ⟨.hbm, 81, rfl⟩
abbrev main_call2_v5 : Ref sig .tc := ⟨.hbm, 82, rfl⟩
abbrev main_call2_v6 : Ref sig .tc := ⟨.hbm, 83, rfl⟩
abbrev main_call2_c_2 : Ref sig .tc := ⟨.hbm, 84, rfl⟩
abbrev main_call2_v7 : Ref sig .tc := ⟨.hbm, 85, rfl⟩
abbrev main_call2_v8 : Ref sig .tc := ⟨.hbm, 86, rfl⟩
abbrev main_call2_c_3 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_v25 : Ref sig .tc := ⟨.hbm, 94, rfl⟩
abbrev main_c_5 : Ref sig .tc := ⟨.hbm, 95, rfl⟩
abbrev main_v26 : Ref sig .tc := ⟨.hbm, 96, rfl⟩
abbrev main_v27 : Ref sig .tc := ⟨.hbm, 97, rfl⟩
abbrev main_c_6 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_c_7 : Ref sig .tc := ⟨.hbm, 104, rfl⟩
abbrev main_v33 : Ref sig .tc := ⟨.hbm, 105, rfl⟩
abbrev main_v34 : Ref sig .tc := ⟨.hbm, 106, rfl⟩
abbrev main_cst_8 : Ref sig .tc := ⟨.hbm, 107, rfl⟩
abbrev main_cst_9 : Ref sig .tc := ⟨.hbm, 108, rfl⟩
abbrev main_call3_v0 : Ref sig .tc := ⟨.hbm, 109, rfl⟩
abbrev main_call3_v1 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_cst_10 : Ref sig .tc := ⟨.hbm, 118, rfl⟩
abbrev main_v42 : Ref sig .tc := ⟨.hbm, 119, rfl⟩
abbrev main_v43 : Ref sig .tc := ⟨.hbm, 120, rfl⟩
abbrev main_cst_11 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_c_12 : Ref sig .tc := ⟨.hbm, 128, rfl⟩
abbrev main_call4_v0 : Ref sig .tc := ⟨.hbm, 129, rfl⟩
abbrev main_call4_c : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_c_1 : Ref sig .tc := ⟨.hbm, 136, rfl⟩
abbrev main_call4_v5 : Ref sig .tc := ⟨.hbm, 137, rfl⟩
abbrev main_call4_v6 : Ref sig .tc := ⟨.hbm, 138, rfl⟩
abbrev main_call4_c_2 : Ref sig .tc := ⟨.hbm, 139, rfl⟩
abbrev main_call4_v7 : Ref sig .tc := ⟨.hbm, 140, rfl⟩
abbrev main_call4_v8 : Ref sig .tc := ⟨.hbm, 141, rfl⟩
abbrev main_call4_c_3 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_v50 : Ref sig .tc := ⟨.hbm, 149, rfl⟩
abbrev main_v51 : Ref sig .tc := ⟨.hbm, 150, rfl⟩
abbrev main_c_13 : Ref sig .tc := ⟨.hbm, 151, rfl⟩
abbrev main_call5_v0 : Ref sig .tc := ⟨.hbm, 152, rfl⟩
abbrev main_call5_c : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_c_1 : Ref sig .tc := ⟨.hbm, 159, rfl⟩
abbrev main_call5_v5 : Ref sig .tc := ⟨.hbm, 160, rfl⟩
abbrev main_call5_v6 : Ref sig .tc := ⟨.hbm, 161, rfl⟩
abbrev main_call5_c_2 : Ref sig .tc := ⟨.hbm, 162, rfl⟩
abbrev main_call5_v7 : Ref sig .tc := ⟨.hbm, 163, rfl⟩
abbrev main_call5_v8 : Ref sig .tc := ⟨.hbm, 164, rfl⟩
abbrev main_call5_c_3 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_v52 : Ref sig .tc := ⟨.hbm, 172, rfl⟩
abbrev main_c_14 : Ref sig .tc := ⟨.hbm, 173, rfl⟩
abbrev main_v53 : Ref sig .tc := ⟨.hbm, 174, rfl⟩
abbrev main_v54 : Ref sig .tc := ⟨.hbm, 175, rfl⟩
abbrev main_c_15 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_c_16 : Ref sig .tc := ⟨.hbm, 183, rfl⟩
abbrev main_call6_v0 : Ref sig .tc := ⟨.hbm, 184, rfl⟩
abbrev main_call6_c : Ref sig .tc := ⟨.hbm, 185, rfl⟩
abbrev main_call6_v1 : Ref sig .tc := ⟨.hbm, 186, rfl⟩
abbrev main_call6_c_0 : Ref sig .tc := ⟨.hbm, 187, rfl⟩
abbrev main_call6_v2 : Ref sig .tc := ⟨.hbm, 188, rfl⟩
abbrev main_call6_v3 : Ref sig .tc := ⟨.hbm, 189, rfl⟩
abbrev main_call6_v4 : Ref sig .tc := ⟨.hbm, 190, rfl⟩
abbrev main_call6_c_1 : Ref sig .tc := ⟨.hbm, 191, rfl⟩
abbrev main_call6_v5 : Ref sig .tc := ⟨.hbm, 192, rfl⟩
abbrev main_call6_v6 : Ref sig .tc := ⟨.hbm, 193, rfl⟩
abbrev main_call6_c_2 : Ref sig .tc := ⟨.hbm, 194, rfl⟩
abbrev main_call6_v7 : Ref sig .tc := ⟨.hbm, 195, rfl⟩
abbrev main_call6_v8 : Ref sig .tc := ⟨.hbm, 196, rfl⟩
abbrev main_call6_c_3 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_v12 : Ref sig .tc := ⟨.hbm, 201, rfl⟩
abbrev main_call6_v13 : Ref sig .tc := ⟨.hbm, 202, rfl⟩
abbrev main_call6_v14 : Ref sig .tc := ⟨.hbm, 203, rfl⟩
abbrev main_v61 : Ref sig .tc := ⟨.hbm, 204, rfl⟩
abbrev main_c_17 : Ref sig .tc := ⟨.hbm, 205, rfl⟩
abbrev main_v62 : Ref sig .tc := ⟨.hbm, 206, rfl⟩
abbrev main_v63 : Ref sig .tc := ⟨.hbm, 207, rfl⟩
abbrev main_c_18 : Ref sig .tc := ⟨.hbm, 208, rfl⟩
abbrev main_v64 : Ref sig .tc := ⟨.hbm, 209, rfl⟩
abbrev main_v65 : Ref sig .tc := ⟨.hbm, 210, rfl⟩
abbrev main_v66 : Ref sig .tc := ⟨.hbm, 211, rfl⟩
abbrev main_v67 : Ref sig .tc := ⟨.hbm, 212, rfl⟩
abbrev main_v68 : Ref sig .tc := ⟨.hbm, 213, rfl⟩
abbrev main_c_19 : Ref sig .tc := ⟨.hbm, 214, rfl⟩
abbrev main_v69 : Ref sig .tc := ⟨.hbm, 215, rfl⟩
abbrev main_v70 : Ref sig .tc := ⟨.hbm, 216, rfl⟩
abbrev main_cst_20 : Ref sig .tc := ⟨.hbm, 217, rfl⟩
abbrev main_cst_21 : Ref sig .tc := ⟨.hbm, 218, rfl⟩
abbrev main_call7_v0 : Ref sig .tc := ⟨.hbm, 219, rfl⟩
abbrev main_call7_v1 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_v74 : Ref sig .tc := ⟨.hbm, 224, rfl⟩
abbrev main_v75 : Ref sig .tc := ⟨.hbm, 225, rfl⟩
abbrev main_v76 : Ref sig .tc := ⟨.hbm, 226, rfl⟩
abbrev main_v77 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QueryRefIdeal.lean ====
abbrev S16384x2048 : Shape := ⟨2, ![16384, 2048]⟩
abbrev S2048x4176 : Shape := ⟨2, ![2048, 4176]⟩
abbrev S2048x2048 : Shape := ⟨2, ![2048, 2048]⟩
abbrev S16384x16x128 : Shape := ⟨3, ![16384, 16, 128]⟩
abbrev S16384 : Shape := ⟨1, ![16384]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S16384x16x64 : Shape := ⟨3, ![16384, 16, 64]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S16384x2048, .f32⟩
  | .hbm, ⟨3, _⟩ => ⟨S2048x2048, .f32⟩
  | .hbm, ⟨4, _⟩ => ⟨S16384x2048, .f32⟩
  | .hbm, ⟨5, _⟩ => ⟨S16384x16x128, .f32⟩
  | .hbm, ⟨6, _⟩ => ⟨S16384, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S16384, .f32⟩
  | .hbm, ⟨16, _⟩ => ⟨S16384x1, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x1x64, .f32⟩
  | .hbm, ⟨23, _⟩ => ⟨S16384x64, .f32⟩
  | .hbm, ⟨24, _⟩ => ⟨S16384x1x64, .f32⟩
  | .hbm, ⟨25, _⟩ => ⟨S16384x16x64, .f32⟩
  | .hbm, ⟨26, _⟩ => ⟨S16384x16x64, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S16384x16x64, .f32⟩
  | .hbm, ⟨31, _⟩ => ⟨S16384x16x64, .f32⟩
  | .hbm, ⟨32, _⟩ => ⟨S16384x16x64, .f32⟩
  | .hbm, ⟨33, _⟩ => ⟨S16384x16x64, .f32⟩
  | .hbm, ⟨34, _⟩ => ⟨S16384x16x64, .f32⟩
  | .hbm, ⟨35, _⟩ => ⟨S16384x16x64, .f32⟩
  | .hbm, ⟨36, _⟩ => ⟨S16384x16x64, .f32⟩
  | .hbm, ⟨37, _⟩ => ⟨S16384x16x128, .f32⟩
  | .hbm, ⟨38, _⟩ => ⟨S16384x2048, .f32⟩
  | .hbm, ⟨39, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== IndexQuery.lean ====
abbrev S16384x2048 : Shape := ⟨2, ![16384, 2048]⟩
abbrev S2048x4176 : Shape := ⟨2, ![2048, 4176]⟩
abbrev S16384 : Shape := ⟨1, ![16384]⟩
abbrev S16384x1 : Shape := ⟨2, ![16384, 1]⟩
abbrev S128 : Shape := ⟨1, ![128]⟩
abbrev S64 : Shape := ⟨1, ![64]⟩
abbrev S_ : Shape := ⟨0, ![]⟩
abbrev S1x64 : Shape := ⟨2, ![1, 64]⟩
abbrev S16384x64 : Shape := ⟨2, ![16384, 64]⟩
abbrev S128x1 : Shape := ⟨2, ![128, 1]⟩
abbrev S16384x128 : Shape := ⟨2, ![16384, 128]⟩
abbrev S1x128 : Shape := ⟨2, ![1, 128]⟩
abbrev S32 : Shape := ⟨1, ![32]⟩
abbrev S1x32 : Shape := ⟨2, ![1, 32]⟩
abbrev S16384x32 : Shape := ⟨2, ![16384, 32]⟩
abbrev S16384x1024 : Shape := ⟨2, ![16384, 1024]⟩
abbrev S512x2048 : Shape := ⟨2, ![512, 2048]⟩
abbrev S2048x512 : Shape := ⟨2, ![2048, 512]⟩
abbrev S512x128 : Shape := ⟨2, ![512, 128]⟩
abbrev S512x512 : Shape := ⟨2, ![512, 512]⟩

abbrev nBuf : Space → Nat
  | .hbm => 228
  | .vmem => 10
  | .smem => 0
  | _ => 0

abbrev hbmTy0_0 (i : Nat) : BufTy := match i % 128 with
  | 0 => ⟨S16384x2048, .bf16⟩
  | 1 => ⟨S2048x4176, .f32⟩
  | 2 => ⟨S16384, .i32⟩
  | 3 => ⟨S16384, .f32⟩
  | 4 => ⟨S16384x1, .f32⟩
  | 5 => ⟨S128, .i32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S1x64, .f32⟩
  | 15 => ⟨S16384x64, .f32⟩
  | 16 => ⟨S16384x64, .f32⟩
  | 17 => ⟨S16384x64, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S16384x64, .f32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i1⟩
  | 57 => ⟨S128, .i1⟩
  | 58 => ⟨S128, .i1⟩
  | 59 => ⟨S128, .i1⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S16384x128, .f32⟩
  | 72 => ⟨S16384x64, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i1⟩
  | 87 => ⟨S_, .i32⟩
  | 88 => ⟨S_, .i1⟩
  | 89 => ⟨S128, .i1⟩
  | 90 => ⟨S128, .i1⟩
  | 91 => ⟨S128, .i1⟩
  | 92 => ⟨S128, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S16384x128, .f32⟩
  | 104 => ⟨S_, .i32⟩
  | 105 => ⟨S128, .i32⟩
  | 106 => ⟨S128, .i1⟩
  | 107 => ⟨S_, .f32⟩
  | 108 => ⟨S_, .f32⟩
  | 109 => ⟨S128, .f32⟩
  | 110 => ⟨S128, .f32⟩
  | 111 => ⟨S128, .f32⟩
  | 112 => ⟨S1x128, .f32⟩
  | 113 => ⟨S1x128, .f32⟩
  | 114 => ⟨S16384x128, .f32⟩
  | 115 => ⟨S16384x128, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S1x32, .f32⟩
  | 125 => ⟨S16384x32, .f32⟩
  | 126 => ⟨S16384x32, .f32⟩
  | 127 => ⟨S16384x32, .f32⟩
  | _ => ⟨S16384x2048, .bf16⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S_, .i32⟩
  | 15 => ⟨S_, .i1⟩
  | 16 => ⟨S128, .i1⟩
  | 17 => ⟨S128, .i1⟩
  | 18 => ⟨S128, .i1⟩
  | 19 => ⟨S128, .i32⟩
  | 20 => ⟨S128, .i32⟩
  | 21 => ⟨S128, .i32⟩
  | 22 => ⟨S16384x32, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S16384x128, .f32⟩
  | 54 => ⟨S16384x32, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i1⟩
  | 69 => ⟨S_, .i32⟩
  | 70 => ⟨S_, .i1⟩
  | 71 => ⟨S128, .i1⟩
  | 72 => ⟨S128, .i1⟩
  | 73 => ⟨S128, .i1⟩
  | 74 => ⟨S128, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S16384x128, .f32⟩
  | 86 => ⟨S_, .i32⟩
  | 87 => ⟨S128, .i32⟩
  | 88 => ⟨S128, .i1⟩
  | 89 => ⟨S_, .f32⟩
  | 90 => ⟨S_, .f32⟩
  | 91 => ⟨S128, .f32⟩
  | 92 => ⟨S128, .f32⟩
  | 93 => ⟨S128, .f32⟩
  | 94 => ⟨S1x128, .f32⟩
  | 95 => ⟨S1x128, .f32⟩
  | 96 => ⟨S16384x128, .f32⟩
  | 97 => ⟨S16384x128, .f32⟩
  | 98 => ⟨S2048x4176, .bf16⟩
  | 99 => ⟨S16384x1024, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v16 : Ref sig .tc := ⟨.hbm, 62, rfl⟩
abbrev main_c_2 : Ref sig .tc := ⟨.hbm, 63, rfl⟩
abbrev main_v17 : Ref sig .tc := ⟨.hbm, 64, rfl⟩
abbrev main_v18 : Ref sig .tc := ⟨.hbm, 65, rfl⟩
abbrev main_c_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_1 : Ref sig .tc := ⟨.hbm, 81, rfl⟩
abbrev main_call2_v5 : Ref sig .tc := ⟨.hbm, 82, rfl⟩
abbrev main_call2_v6 : Ref sig .tc := ⟨.hbm, 83, rfl⟩
abbrev main_call2_c_2 : Ref sig .tc := ⟨.hbm, 84, rfl⟩
abbrev main_call2_v7 : Ref sig .tc := ⟨.hbm, 85, rfl⟩
abbrev main_call2_v8 : Ref sig .tc := ⟨.hbm, 86, rfl⟩
abbrev main_call2_c_3 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_v25 : Ref sig .tc := ⟨.hbm, 94, rfl⟩
abbrev main_c_5 : Ref sig .tc := ⟨.hbm, 95, rfl⟩
abbrev main_v26 : Ref sig .tc := ⟨.hbm, 96, rfl⟩
abbrev main_v27 : Ref sig .tc := ⟨.hbm, 97, rfl⟩
abbrev main_c_6 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_c_7 : Ref sig .tc := ⟨.hbm, 104, rfl⟩
abbrev main_v33 : Ref sig .tc := ⟨.hbm, 105, rfl⟩
abbrev main_v34 : Ref sig .tc := ⟨.hbm, 106, rfl⟩
abbrev main_cst_8 : Ref sig .tc := ⟨.hbm, 107, rfl⟩
abbrev main_cst_9 : Ref sig .tc := ⟨.hbm, 108, rfl⟩
abbrev main_call3_v0 : Ref sig .tc := ⟨.hbm, 109, rfl⟩
abbrev main_call3_v1 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_cst_10 : Ref sig .tc := ⟨.hbm, 118, rfl⟩
abbrev main_v42 : Ref sig .tc := ⟨.hbm, 119, rfl⟩
abbrev main_v43 : Ref sig .tc := ⟨.hbm, 120, rfl⟩
abbrev main_cst_11 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_c_12 : Ref sig .tc := ⟨.hbm, 128, rfl⟩
abbrev main_call4_v0 : Ref sig .tc := ⟨.hbm, 129, rfl⟩
abbrev main_call4_c : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_c_1 : Ref sig .tc := ⟨.hbm, 136, rfl⟩
abbrev main_call4_v5 : Ref sig .tc := ⟨.hbm, 137, rfl⟩
abbrev main_call4_v6 : Ref sig .tc := ⟨.hbm, 138, rfl⟩
abbrev main_call4_c_2 : Ref sig .tc := ⟨.hbm, 139, rfl⟩
abbrev main_call4_v7 : Ref sig .tc := ⟨.hbm, 140, rfl⟩
abbrev main_call4_v8 : Ref sig .tc := ⟨.hbm, 141, rfl⟩
abbrev main_call4_c_3 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_v50 : Ref sig .tc := ⟨.hbm, 149, rfl⟩
abbrev main_v51 : Ref sig .tc := ⟨.hbm, 150, rfl⟩
abbrev main_c_13 : Ref sig .tc := ⟨.hbm, 151, rfl⟩
abbrev main_call5_v0 : Ref sig .tc := ⟨.hbm, 152, rfl⟩
abbrev main_call5_c : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_c_1 : Ref sig .tc := ⟨.hbm, 159, rfl⟩
abbrev main_call5_v5 : Ref sig .tc := ⟨.hbm, 160, rfl⟩
abbrev main_call5_v6 : Ref sig .tc := ⟨.hbm, 161, rfl⟩
abbrev main_call5_c_2 : Ref sig .tc := ⟨.hbm, 162, rfl⟩
abbrev main_call5_v7 : Ref sig .tc := ⟨.hbm, 163, rfl⟩
abbrev main_call5_v8 : Ref sig .tc := ⟨.hbm, 164, rfl⟩
abbrev main_call5_c_3 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_v52 : Ref sig .tc := ⟨.hbm, 172, rfl⟩
abbrev main_c_14 : Ref sig .tc := ⟨.hbm, 173, rfl⟩
abbrev main_v53 : Ref sig .tc := ⟨.hbm, 174, rfl⟩
abbrev main_v54 : Ref sig .tc := ⟨.hbm, 175, rfl⟩
abbrev main_c_15 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_c_16 : Ref sig .tc := ⟨.hbm, 183, rfl⟩
abbrev main_call6_v0 : Ref sig .tc := ⟨.hbm, 184, rfl⟩
abbrev main_call6_c : Ref sig .tc := ⟨.hbm, 185, rfl⟩
abbrev main_call6_v1 : Ref sig .tc := ⟨.hbm, 186, rfl⟩
abbrev main_call6_c_0 : Ref sig .tc := ⟨.hbm, 187, rfl⟩
abbrev main_call6_v2 : Ref sig .tc := ⟨.hbm, 188, rfl⟩
abbrev main_call6_v3 : Ref sig .tc := ⟨.hbm, 189, rfl⟩
abbrev main_call6_v4 : Ref sig .tc := ⟨.hbm, 190, rfl⟩
abbrev main_call6_c_1 : Ref sig .tc := ⟨.hbm, 191, rfl⟩
abbrev main_call6_v5 : Ref sig .tc := ⟨.hbm, 192, rfl⟩
abbrev main_call6_v6 : Ref sig .tc := ⟨.hbm, 193, rfl⟩
abbrev main_call6_c_2 : Ref sig .tc := ⟨.hbm, 194, rfl⟩
abbrev main_call6_v7 : Ref sig .tc := ⟨.hbm, 195, rfl⟩
abbrev main_call6_v8 : Ref sig .tc := ⟨.hbm, 196, rfl⟩
abbrev main_call6_c_3 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_v12 : Ref sig .tc := ⟨.hbm, 201, rfl⟩
abbrev main_call6_v13 : Ref sig .tc := ⟨.hbm, 202, rfl⟩
abbrev main_call6_v14 : Ref sig .tc := ⟨.hbm, 203, rfl⟩
abbrev main_v61 : Ref sig .tc := ⟨.hbm, 204, rfl⟩
abbrev main_c_17 : Ref sig .tc := ⟨.hbm, 205, rfl⟩
abbrev main_v62 : Ref sig .tc := ⟨.hbm, 206, rfl⟩
abbrev main_v63 : Ref sig .tc := ⟨.hbm, 207, rfl⟩
abbrev main_c_18 : Ref sig .tc := ⟨.hbm, 208, rfl⟩
abbrev main_v64 : Ref sig .tc := ⟨.hbm, 209, rfl⟩
abbrev main_v65 : Ref sig .tc := ⟨.hbm, 210, rfl⟩
abbrev main_v66 : Ref sig .tc := ⟨.hbm, 211, rfl⟩
abbrev main_v67 : Ref sig .tc := ⟨.hbm, 212, rfl⟩
abbrev main_v68 : Ref sig .tc := ⟨.hbm, 213, rfl⟩
abbrev main_c_19 : Ref sig .tc := ⟨.hbm, 214, rfl⟩
abbrev main_v69 : Ref sig .tc := ⟨.hbm, 215, rfl⟩
abbrev main_v70 : Ref sig .tc := ⟨.hbm, 216, rfl⟩
abbrev main_cst_20 : Ref sig .tc := ⟨.hbm, 217, rfl⟩
abbrev main_cst_21 : Ref sig .tc := ⟨.hbm, 218, rfl⟩
abbrev main_call7_v0 : Ref sig .tc := ⟨.hbm, 219, rfl⟩
abbrev main_call7_v1 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_v74 : Ref sig .tc := ⟨.hbm, 224, rfl⟩
abbrev main_v75 : Ref sig .tc := ⟨.hbm, 225, rfl⟩
abbrev main_v76 : Ref sig .tc := ⟨.hbm, 226, rfl⟩
abbrev main_v77 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== IndexQueryRefIdeal.lean ====
abbrev S16384x2048 : Shape := ⟨2, ![16384, 2048]⟩
abbrev S2048x4176 : Shape := ⟨2, ![2048, 4176]⟩
abbrev S2048x1024 : Shape := ⟨2, ![2048, 1024]⟩
abbrev S16384x1024 : Shape := ⟨2, ![16384, 1024]⟩
abbrev S16384x16x64 : Shape := ⟨3, ![16384, 16, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x16x32 : Shape := ⟨3, ![16384, 16, 32]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S16384x2048, .f32⟩
  | .hbm, ⟨3, _⟩ => ⟨S2048x1024, .f32⟩
  | .hbm, ⟨4, _⟩ => ⟨S16384x1024, .f32⟩
  | .hbm, ⟨5, _⟩ => ⟨S16384x16x64, .f32⟩
  | .hbm, ⟨6, _⟩ => ⟨S16384, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384, .f32⟩
  | .hbm, ⟨16, _⟩ => ⟨S16384x1, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x1x32, .f32⟩
  | .hbm, ⟨23, _⟩ => ⟨S16384x32, .f32⟩
  | .hbm, ⟨24, _⟩ => ⟨S16384x1x32, .f32⟩
  | .hbm, ⟨25, _⟩ => ⟨S16384x16x32, .f32⟩
  | .hbm, ⟨26, _⟩ => ⟨S16384x16x32, .f32⟩
  | .hbm, ⟨27, _⟩ => ⟨S16384x16x32, .f32⟩
  | .hbm, ⟨28, _⟩ => ⟨S16384x16x32, .f32⟩
  | .hbm, ⟨29, _⟩ => ⟨S16384x16x32, .f32⟩
  | .hbm, ⟨30, _⟩ => ⟨S16384x16x32, .f32⟩
  | .hbm, ⟨31, _⟩ => ⟨S16384x16x32, .f32⟩
  | .hbm, ⟨32, _⟩ => ⟨S16384x16x32, .f32⟩
  | .hbm, ⟨33, _⟩ => ⟨S16384x16x32, .f32⟩
  | .hbm, ⟨34, _⟩ => ⟨S16384x16x32, .f32⟩
  | .hbm, ⟨35, _⟩ => ⟨S16384x16x32, .f32⟩
  | .hbm, ⟨36, _⟩ => ⟨S16384x16x32, .f32⟩
  | .hbm, ⟨37, _⟩ => ⟨S16384x16x64, .f32⟩
  | .hbm, ⟨38, _⟩ => ⟨S16384x1024, .f32⟩
  | .hbm, ⟨39, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== IndexKey.lean ====
abbrev S16384x2048 : Shape := ⟨2, ![16384, 2048]⟩
abbrev S2048x4176 : Shape := ⟨2, ![2048, 4176]⟩
abbrev S16384 : Shape := ⟨1, ![16384]⟩
abbrev S16384x1 : Shape := ⟨2, ![16384, 1]⟩
abbrev S128 : Shape := ⟨1, ![128]⟩
abbrev S64 : Shape := ⟨1, ![64]⟩
abbrev S_ : Shape := ⟨0, ![]⟩
abbrev S1x64 : Shape := ⟨2, ![1, 64]⟩
abbrev S16384x64 : Shape := ⟨2, ![16384, 64]⟩
abbrev S128x1 : Shape := ⟨2, ![128, 1]⟩
abbrev S16384x128 : Shape := ⟨2, ![16384, 128]⟩
abbrev S1x128 : Shape := ⟨2, ![1, 128]⟩
abbrev S32 : Shape := ⟨1, ![32]⟩
abbrev S1x32 : Shape := ⟨2, ![1, 32]⟩
abbrev S16384x32 : Shape := ⟨2, ![16384, 32]⟩
abbrev S2048x80 : Shape := ⟨2, ![2048, 80]⟩
abbrev S2048x128 : Shape := ⟨2, ![2048, 128]⟩
abbrev S512x2048 : Shape := ⟨2, ![512, 2048]⟩
abbrev S512x128 : Shape := ⟨2, ![512, 128]⟩
abbrev S16384x16 : Shape := ⟨2, ![16384, 16]⟩
abbrev S16x16384 : Shape := ⟨2, ![16, 16384]⟩

abbrev nBuf : Space → Nat
  | .hbm => 255
  | .vmem => 9
  | .smem => 0
  | _ => 0

abbrev hbmTy0_0 (i : Nat) : BufTy := match i % 128 with
  | 0 => ⟨S16384x2048, .bf16⟩
  | 1 => ⟨S2048x4176, .f32⟩
  | 2 => ⟨S16384, .i32⟩
  | 3 => ⟨S16384, .f32⟩
  | 4 => ⟨S16384x1, .f32⟩
  | 5 => ⟨S128, .i32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S1x64, .f32⟩
  | 15 => ⟨S16384x64, .f32⟩
  | 16 => ⟨S16384x64, .f32⟩
  | 17 => ⟨S16384x64, .f32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S128, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i1⟩
  | 32 => ⟨S_, .i32⟩
  | 33 => ⟨S_, .i1⟩
  | 34 => ⟨S128, .i1⟩
  | 35 => ⟨S128, .i1⟩
  | 36 => ⟨S128, .i1⟩
  | 37 => ⟨S128, .i32⟩
  | 38 => ⟨S128, .i32⟩
  | 39 => ⟨S128, .i32⟩
  | 40 => ⟨S16384x64, .f32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i1⟩
  | 55 => ⟨S_, .i32⟩
  | 56 => ⟨S_, .i1⟩
  | 57 => ⟨S128, .i1⟩
  | 58 => ⟨S128, .i1⟩
  | 59 => ⟨S128, .i1⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S16384x128, .f32⟩
  | 72 => ⟨S16384x64, .f32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S128, .i32⟩
  | 80 => ⟨S128, .i32⟩
  | 81 => ⟨S_, .i32⟩
  | 82 => ⟨S128, .i32⟩
  | 83 => ⟨S128, .i1⟩
  | 84 => ⟨S_, .i32⟩
  | 85 => ⟨S128, .i32⟩
  | 86 => ⟨S128, .i1⟩
  | 87 => ⟨S_, .i32⟩
  | 88 => ⟨S_, .i1⟩
  | 89 => ⟨S128, .i1⟩
  | 90 => ⟨S128, .i1⟩
  | 91 => ⟨S128, .i1⟩
  | 92 => ⟨S128, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S16384x128, .f32⟩
  | 104 => ⟨S_, .i32⟩
  | 105 => ⟨S128, .i32⟩
  | 106 => ⟨S128, .i1⟩
  | 107 => ⟨S_, .f32⟩
  | 108 => ⟨S_, .f32⟩
  | 109 => ⟨S128, .f32⟩
  | 110 => ⟨S128, .f32⟩
  | 111 => ⟨S128, .f32⟩
  | 112 => ⟨S1x128, .f32⟩
  | 113 => ⟨S1x128, .f32⟩
  | 114 => ⟨S16384x128, .f32⟩
  | 115 => ⟨S16384x128, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S1x32, .f32⟩
  | 125 => ⟨S16384x32, .f32⟩
  | 126 => ⟨S16384x32, .f32⟩
  | 127 => ⟨S16384x32, .f32⟩
  | _ => ⟨S16384x2048, .bf16⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S128, .i32⟩
  | 7 => ⟨S128, .i32⟩
  | 8 => ⟨S_, .i32⟩
  | 9 => ⟨S128, .i32⟩
  | 10 => ⟨S128, .i1⟩
  | 11 => ⟨S_, .i32⟩
  | 12 => ⟨S128, .i32⟩
  | 13 => ⟨S128, .i1⟩
  | 14 => ⟨S_, .i32⟩
  | 15 => ⟨S_, .i1⟩
  | 16 => ⟨S128, .i1⟩
  | 17 => ⟨S128, .i1⟩
  | 18 => ⟨S128, .i1⟩
  | 19 => ⟨S128, .i32⟩
  | 20 => ⟨S128, .i32⟩
  | 21 => ⟨S128, .i32⟩
  | 22 => ⟨S16384x32, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S16384x128, .f32⟩
  | 54 => ⟨S16384x32, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i1⟩
  | 69 => ⟨S_, .i32⟩
  | 70 => ⟨S_, .i1⟩
  | 71 => ⟨S128, .i1⟩
  | 72 => ⟨S128, .i1⟩
  | 73 => ⟨S128, .i1⟩
  | 74 => ⟨S128, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S16384x128, .f32⟩
  | 86 => ⟨S_, .i32⟩
  | 87 => ⟨S128, .i32⟩
  | 88 => ⟨S128, .i1⟩
  | 89 => ⟨S_, .f32⟩
  | 90 => ⟨S_, .f32⟩
  | 91 => ⟨S128, .f32⟩
  | 92 => ⟨S128, .f32⟩
  | 93 => ⟨S128, .f32⟩
  | 94 => ⟨S1x128, .f32⟩
  | 95 => ⟨S1x128, .f32⟩
  | 96 => ⟨S16384x128, .f32⟩
  | 97 => ⟨S16384x128, .f32⟩
  | 98 => ⟨S2048x4176, .bf16⟩
  | 99 => ⟨S2048x80, .bf16⟩
  | 100 => ⟨S_, .i32⟩
  | 101 => ⟨S_, .bf16⟩
  | 102 => ⟨S2048x128, .bf16⟩
  | 103 => ⟨S128, .i32⟩
  | 104 => ⟨S1x128, .i32⟩
  | 105 => ⟨S_, .i32⟩
  | 106 => ⟨S1x128, .i32⟩
  | 107 => ⟨S1x128, .i1⟩
  | 108 => ⟨S_, .f32⟩
  | 109 => ⟨S_, .f32⟩
  | 110 => ⟨S16384x128, .i1⟩
  | 111 => ⟨S16384x128, .f32⟩
  | 112 => ⟨S16384x128, .f32⟩
  | 113 => ⟨S1x128, .i32⟩
  | 114 => ⟨S_, .i32⟩
  | 115 => ⟨S1x128, .i32⟩
  | 116 => ⟨S1x128, .i1⟩
  | 117 => ⟨S_, .f32⟩
  | 118 => ⟨S_, .f32⟩
  | 119 => ⟨S16384x128, .i1⟩
  | 120 => ⟨S16384x128, .f32⟩
  | 121 => ⟨S16384x128, .f32⟩
  | 122 => ⟨S16384x128, .f32⟩
  | 123 => ⟨S16384x64, .f32⟩
  | 124 => ⟨S16384x64, .bf16⟩
  | 125 => ⟨S16384x16, .f32⟩
  | 126 => ⟨S16x16384, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v14 : Ref sig .tc := ⟨.hbm, 39, rfl⟩
abbrev main_v15 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v16 : Ref sig .tc := ⟨.hbm, 62, rfl⟩
abbrev main_c_2 : Ref sig .tc := ⟨.hbm, 63, rfl⟩
abbrev main_v17 : Ref sig .tc := ⟨.hbm, 64, rfl⟩
abbrev main_v18 : Ref sig .tc := ⟨.hbm, 65, rfl⟩
abbrev main_c_3 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_4 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_1 : Ref sig .tc := ⟨.hbm, 81, rfl⟩
abbrev main_call2_v5 : Ref sig .tc := ⟨.hbm, 82, rfl⟩
abbrev main_call2_v6 : Ref sig .tc := ⟨.hbm, 83, rfl⟩
abbrev main_call2_c_2 : Ref sig .tc := ⟨.hbm, 84, rfl⟩
abbrev main_call2_v7 : Ref sig .tc := ⟨.hbm, 85, rfl⟩
abbrev main_call2_v8 : Ref sig .tc := ⟨.hbm, 86, rfl⟩
abbrev main_call2_c_3 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_v25 : Ref sig .tc := ⟨.hbm, 94, rfl⟩
abbrev main_c_5 : Ref sig .tc := ⟨.hbm, 95, rfl⟩
abbrev main_v26 : Ref sig .tc := ⟨.hbm, 96, rfl⟩
abbrev main_v27 : Ref sig .tc := ⟨.hbm, 97, rfl⟩
abbrev main_c_6 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_c_7 : Ref sig .tc := ⟨.hbm, 104, rfl⟩
abbrev main_v33 : Ref sig .tc := ⟨.hbm, 105, rfl⟩
abbrev main_v34 : Ref sig .tc := ⟨.hbm, 106, rfl⟩
abbrev main_cst_8 : Ref sig .tc := ⟨.hbm, 107, rfl⟩
abbrev main_cst_9 : Ref sig .tc := ⟨.hbm, 108, rfl⟩
abbrev main_call3_v0 : Ref sig .tc := ⟨.hbm, 109, rfl⟩
abbrev main_call3_v1 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_cst_10 : Ref sig .tc := ⟨.hbm, 118, rfl⟩
abbrev main_v42 : Ref sig .tc := ⟨.hbm, 119, rfl⟩
abbrev main_v43 : Ref sig .tc := ⟨.hbm, 120, rfl⟩
abbrev main_cst_11 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_c_12 : Ref sig .tc := ⟨.hbm, 128, rfl⟩
abbrev main_call4_v0 : Ref sig .tc := ⟨.hbm, 129, rfl⟩
abbrev main_call4_c : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_c_1 : Ref sig .tc := ⟨.hbm, 136, rfl⟩
abbrev main_call4_v5 : Ref sig .tc := ⟨.hbm, 137, rfl⟩
abbrev main_call4_v6 : Ref sig .tc := ⟨.hbm, 138, rfl⟩
abbrev main_call4_c_2 : Ref sig .tc := ⟨.hbm, 139, rfl⟩
abbrev main_call4_v7 : Ref sig .tc := ⟨.hbm, 140, rfl⟩
abbrev main_call4_v8 : Ref sig .tc := ⟨.hbm, 141, rfl⟩
abbrev main_call4_c_3 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_v50 : Ref sig .tc := ⟨.hbm, 149, rfl⟩
abbrev main_v51 : Ref sig .tc := ⟨.hbm, 150, rfl⟩
abbrev main_c_13 : Ref sig .tc := ⟨.hbm, 151, rfl⟩
abbrev main_call5_v0 : Ref sig .tc := ⟨.hbm, 152, rfl⟩
abbrev main_call5_c : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_c_1 : Ref sig .tc := ⟨.hbm, 159, rfl⟩
abbrev main_call5_v5 : Ref sig .tc := ⟨.hbm, 160, rfl⟩
abbrev main_call5_v6 : Ref sig .tc := ⟨.hbm, 161, rfl⟩
abbrev main_call5_c_2 : Ref sig .tc := ⟨.hbm, 162, rfl⟩
abbrev main_call5_v7 : Ref sig .tc := ⟨.hbm, 163, rfl⟩
abbrev main_call5_v8 : Ref sig .tc := ⟨.hbm, 164, rfl⟩
abbrev main_call5_c_3 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_v52 : Ref sig .tc := ⟨.hbm, 172, rfl⟩
abbrev main_c_14 : Ref sig .tc := ⟨.hbm, 173, rfl⟩
abbrev main_v53 : Ref sig .tc := ⟨.hbm, 174, rfl⟩
abbrev main_v54 : Ref sig .tc := ⟨.hbm, 175, rfl⟩
abbrev main_c_15 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_c_16 : Ref sig .tc := ⟨.hbm, 183, rfl⟩
abbrev main_call6_v0 : Ref sig .tc := ⟨.hbm, 184, rfl⟩
abbrev main_call6_c : Ref sig .tc := ⟨.hbm, 185, rfl⟩
abbrev main_call6_v1 : Ref sig .tc := ⟨.hbm, 186, rfl⟩
abbrev main_call6_c_0 : Ref sig .tc := ⟨.hbm, 187, rfl⟩
abbrev main_call6_v2 : Ref sig .tc := ⟨.hbm, 188, rfl⟩
abbrev main_call6_v3 : Ref sig .tc := ⟨.hbm, 189, rfl⟩
abbrev main_call6_v4 : Ref sig .tc := ⟨.hbm, 190, rfl⟩
abbrev main_call6_c_1 : Ref sig .tc := ⟨.hbm, 191, rfl⟩
abbrev main_call6_v5 : Ref sig .tc := ⟨.hbm, 192, rfl⟩
abbrev main_call6_v6 : Ref sig .tc := ⟨.hbm, 193, rfl⟩
abbrev main_call6_c_2 : Ref sig .tc := ⟨.hbm, 194, rfl⟩
abbrev main_call6_v7 : Ref sig .tc := ⟨.hbm, 195, rfl⟩
abbrev main_call6_v8 : Ref sig .tc := ⟨.hbm, 196, rfl⟩
abbrev main_call6_c_3 : Ref sig .tc := ⟨.hbm, 197, rfl⟩
abbrev main_call6_v9 : Ref sig .tc := ⟨.hbm, 198, rfl⟩
abbrev main_call6_v10 : Ref sig .tc := ⟨.hbm, 199, rfl⟩
abbrev main_call6_v11 : Ref sig .tc := ⟨.hbm, 200, rfl⟩
abbrev main_call6_v12 : Ref sig .tc := ⟨.hbm, 201, rfl⟩
abbrev main_call6_v13 : Ref sig .tc := ⟨.hbm, 202, rfl⟩
abbrev main_call6_v14 : Ref sig .tc := ⟨.hbm, 203, rfl⟩
abbrev main_v61 : Ref sig .tc := ⟨.hbm, 204, rfl⟩
abbrev main_c_17 : Ref sig .tc := ⟨.hbm, 205, rfl⟩
abbrev main_v62 : Ref sig .tc := ⟨.hbm, 206, rfl⟩
abbrev main_v63 : Ref sig .tc := ⟨.hbm, 207, rfl⟩
abbrev main_c_18 : Ref sig .tc := ⟨.hbm, 208, rfl⟩
abbrev main_v64 : Ref sig .tc := ⟨.hbm, 209, rfl⟩
abbrev main_v65 : Ref sig .tc := ⟨.hbm, 210, rfl⟩
abbrev main_v66 : Ref sig .tc := ⟨.hbm, 211, rfl⟩
abbrev main_v67 : Ref sig .tc := ⟨.hbm, 212, rfl⟩
abbrev main_v68 : Ref sig .tc := ⟨.hbm, 213, rfl⟩
abbrev main_c_19 : Ref sig .tc := ⟨.hbm, 214, rfl⟩
abbrev main_v69 : Ref sig .tc := ⟨.hbm, 215, rfl⟩
abbrev main_v70 : Ref sig .tc := ⟨.hbm, 216, rfl⟩
abbrev main_cst_20 : Ref sig .tc := ⟨.hbm, 217, rfl⟩
abbrev main_cst_21 : Ref sig .tc := ⟨.hbm, 218, rfl⟩
abbrev main_call7_v0 : Ref sig .tc := ⟨.hbm, 219, rfl⟩
abbrev main_call7_v1 : Ref sig .tc := ⟨.hbm, 220, rfl⟩
abbrev main_v71 : Ref sig .tc := ⟨.hbm, 221, rfl⟩
abbrev main_v72 : Ref sig .tc := ⟨.hbm, 222, rfl⟩
abbrev main_v73 : Ref sig .tc := ⟨.hbm, 223, rfl⟩
abbrev main_v74 : Ref sig .tc := ⟨.hbm, 224, rfl⟩
abbrev main_v75 : Ref sig .tc := ⟨.hbm, 225, rfl⟩
abbrev main_v76 : Ref sig .tc := ⟨.hbm, 226, rfl⟩
abbrev main_v77 : Ref sig .tc := ⟨.hbm, 227, rfl⟩
abbrev main_c_22 : Ref sig .tc := ⟨.hbm, 228, rfl⟩
abbrev main_call8_v0 : Ref sig .tc := ⟨.hbm, 229, rfl⟩
abbrev main_v78 : Ref sig .tc := ⟨.hbm, 230, rfl⟩
abbrev main_v79 : Ref sig .tc := ⟨.hbm, 231, rfl⟩
abbrev main_v80 : Ref sig .tc := ⟨.hbm, 232, rfl⟩
abbrev main_c_23 : Ref sig .tc := ⟨.hbm, 233, rfl⟩
abbrev main_v81 : Ref sig .tc := ⟨.hbm, 234, rfl⟩
abbrev main_v82 : Ref sig .tc := ⟨.hbm, 235, rfl⟩
abbrev main_cst_24 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_v83 : Ref sig .tc := ⟨.hbm, 240, rfl⟩
abbrev main_v84 : Ref sig .tc := ⟨.hbm, 241, rfl⟩
abbrev main_c_25 : Ref sig .tc := ⟨.hbm, 242, rfl⟩
abbrev main_v85 : Ref sig .tc := ⟨.hbm, 243, rfl⟩
abbrev main_v86 : Ref sig .tc := ⟨.hbm, 244, rfl⟩
abbrev main_cst_26 : Ref sig .tc := ⟨.hbm, 245, rfl⟩
abbrev main_call10_v0 : Ref sig .tc := ⟨.hbm, 246, rfl⟩
abbrev main_call10_v1 : Ref sig .tc := ⟨.hbm, 247, rfl⟩
abbrev main_call10_v2 : Ref sig .tc := ⟨.hbm, 248, rfl⟩
abbrev main_v87 : Ref sig .tc := ⟨.hbm, 249, rfl⟩
abbrev main_v88 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== IndexKeyRefIdeal.lean ====
abbrev S16384x2048 : Shape := ⟨2, ![16384, 2048]⟩
abbrev S2048x4176 : Shape := ⟨2, ![2048, 4176]⟩
abbrev S2048x80 : Shape := ⟨2, ![2048, 80]⟩
abbrev S16384x80 : Shape := ⟨2, ![16384, 80]⟩
abbrev S16384x64 : Shape := ⟨2, ![16384, 64]⟩
abbrev S16384x1x64 : Shape := ⟨3, ![16384, 1, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x16 : Shape := ⟨2, ![16384, 16]⟩
abbrev S16x16384 : Shape := ⟨2, ![16, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4176, .f32⟩
  | .hbm, ⟨2, _⟩ => ⟨S16384x2048, .f32⟩
  | .hbm, ⟨3, _⟩ => ⟨S2048x80, .f32⟩
  | .hbm, ⟨4, _⟩ => ⟨S16384x80, .f32⟩
  | .hbm, ⟨5, _⟩ => ⟨S16384x64, .f32⟩
  | .hbm, ⟨6, _⟩ => ⟨S16384x1x64, .f32⟩
  | .hbm, ⟨7, _⟩ => ⟨S16384, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x1x32, .f32⟩
  | .hbm, ⟨24, _⟩ => ⟨S16384x32, .f32⟩
  | .hbm, ⟨25, _⟩ => ⟨S16384x1x32, .f32⟩
  | .hbm, ⟨26, _⟩ => ⟨S16384x1x32, .f32⟩
  | .hbm, ⟨27, _⟩ => ⟨S16384x1x32, .f32⟩
  | .hbm, ⟨28, _⟩ => ⟨S16384x1x32, .f32⟩
  | .hbm, ⟨29, _⟩ => ⟨S16384x1x32, .f32⟩
  | .hbm, ⟨30, _⟩ => ⟨S16384x1x32, .f32⟩
  | .hbm, ⟨31, _⟩ => ⟨S16384x1x32, .f32⟩
  | .hbm, ⟨32, _⟩ => ⟨S16384x1x32, .f32⟩
  | .hbm, ⟨33, _⟩ => ⟨S16384x1x32, .f32⟩
  | .hbm, ⟨34, _⟩ => ⟨S16384x1x64, .f32⟩
  | .hbm, ⟨35, _⟩ => ⟨S16384x64, .f32⟩
  | .hbm, ⟨36, _⟩ => ⟨S16384x16, .f32⟩
  | .hbm, ⟨37, _⟩ => ⟨S_, .f32⟩
  | .hbm, ⟨38, _⟩ => ⟨S16384x16, .f32⟩
  | .hbm, ⟨39, _⟩ => ⟨S16384x16, .f32⟩
  | .hbm, ⟨40, _⟩ => ⟨S16384x64, .bf16⟩
  | .hbm, ⟨41, _⟩ => ⟨S_, .f32⟩
  | .hbm, ⟨42, _⟩ => ⟨S16384x16, .f32⟩
  | .hbm, ⟨43, _⟩ => ⟨S16384x16, .f32⟩
  | .hbm, ⟨44, _⟩ => ⟨S16x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== NormMod.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== AdaMod.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S2048 : Shape := ⟨1, ![2048]⟩
abbrev S1 : Shape := ⟨1, ![1]⟩
abbrev S2x1x12288 : Shape := ⟨3, ![2, 1, 12288]⟩
abbrev S2x8x12288 : Shape := ⟨3, ![2, 8, 12288]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 13
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S8x2048, .f32⟩
  | .hbm, ⟨5, _⟩ => ⟨S2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S2x1x12288, .f32⟩
  | .hbm, ⟨10, _⟩ => ⟨S2x8x12288, .f32⟩
  | .hbm, ⟨11, _⟩ => ⟨S2x1x12288, .f32⟩
  | .hbm, ⟨12, _⟩ => ⟨S2x12288, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaModRefIdeal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩

abbrev nBuf : Space → Nat
  | .hbm => 27
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S2x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Proof.GluValue.lean ====
/- The gated linear unit: what the tiled kernel leaves in its result array is the reference's term.
   One grid point computes a 512 x 512 tile from a row block, two column blocks of the weights (the value half and the
   gate half) and the two matching bias slices; the tiles cover the array. -/
module

public import proofs.«01_k».proof.Proof.Gen.GluIdeal.Value
public import proofs.«01_k».proof.Proof.Gen.GluRefIdeal.Read
public import proofs.«01_k».proof.Proof.Gen.GluRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluIdeal.Tiles

open Cert.GluIdeal Cert.GluIdeal.Gen

variable (m : (ℓ : Loc nD τ sig) → Buf (Elt Ideal) ℓ)

/-- The block every window shows at a grid point, all points at once. -/
theorem idx : ∀ t : Fin cfg0.N,
    win0_0.index t = ![t.val / 4, 0] ∧ win0_1.index t = ![0, t.val % 4] ∧ win0_2.index t = ![0, t.val % 4 + 4]
    ∧ win0_3.index t = ![0, t.val % 4] ∧ win0_4.index t = ![0, t.val % 4 + 4]
    ∧ win0_5.index t = ![t.val / 4, t.val % 4] ∧ t.val / 4 < 32 :=
  (by decide +kernel : ∀ t : Fin grid0.N, _)

/-- The weights the region reads: the argument, its cast the identity at the ideal reading. -/
theorem V_v0 (c : Dev nD) (i : S2048x4096.Idx) : V m c main_v0 i = m ((c : Thread nD τ).loc main_arg1) i := by
  entry_read
  rfl

/-- The bias the region reads: the argument laid out as one row. -/
theorem V_v1 (c : Dev nD) (i : S1x4096.Idx) : V m c main_v1 i = m ((c : Thread nD τ).loc main_arg2) (ix1 (i 1)) := by
  entry_read
  pointwise

/-- One stored element is the reference's element at the place the block puts it. -/
theorem point (c : Dev nD) (t : Fin cfg0.N) (y) :
    k0_pay1 (iblk m c 0 t) (iblk m c 1 t) (iblk m c 3 t) (iblk m c 2 t) (iblk m c 4 t) y
      = Cert.GluRefIdeal.Read.val_main_v13 (F := Ideal) (m ((c : Thread nD τ).loc main_arg0)) (m ((c : Thread nD τ).loc main_arg1))
          (m ((c : Thread nD τ).loc main_arg2)) (((cfg0.win 5).blk t).view.emb y) := by
  rw [← Cert.GluRefIdeal.Read.val_main_v13_eq]
  pointwise [k0_pay1, Ideal.logistic]
  blk_simp [iblk, V_main_arg0, V_v0, V_v1, idx t]
  blk_point [iblk, V_main_arg0, V_v0, V_v1, idx t]
  all_goals refine (V_v1 m c _).trans ?_
  all_goals blk_ext [idx t]

/-- The result array after the run. -/
theorem final (c : Dev nD) : (dats m 0 c).arrAt 5 cfg0.N
    = Cert.GluRefIdeal.Read.val_main_v13 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  frame_out
  exact point m c t y

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v2)
        = Cert.GluRefIdeal.Read.val_main_v13 (F := Ideal) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.GluIdeal.Value.run_blocks m ρ)

end Cert.GluIdeal.Tiles

end
-- ==== Proof.ProjValue.lean ====
/- The output projection with bias, gate and residual: what the tiled kernel leaves in its result array is the
   reference's term. One grid point computes a 512 x 512 tile from a row block and a column block of the weights. -/
module

public import proofs.«01_k».proof.Proof.Gen.ProjIdeal.Value
public import proofs.«01_k».proof.Proof.Gen.ProjRefIdeal.Read
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Tiles

open Cert.ProjIdeal Cert.ProjIdeal.Gen

variable (m : (ℓ : Loc nD τ sig) → Buf (Elt Ideal) ℓ)

/-- The block every window shows at a grid point, all points at once. -/
theorem idx : ∀ t : Fin cfg0.N,
    win0_0.index t = ![t.val / 4, 0] ∧ win0_1.index t = ![0, t.val % 4] ∧ win0_2.index t = ![0, t.val % 4]
    ∧ win0_3.index t = ![t.val / 4, t.val % 4] ∧ win0_4.index t = ![0, t.val % 4]
    ∧ win0_5.index t = ![t.val / 4, t.val % 4] ∧ t.val / 4 < 32 :=
  (by decide +kernel : ∀ t : Fin grid0.N, _)

/-- The weights the region reads: the argument, its cast the identity at the ideal reading. -/
theorem V_v0 (c : Dev nD) (i : S2048x2048.Idx) : V m c main_v0 i = m ((c : Thread nD τ).loc main_arg1) i := by
  entry_read
  rfl

/-- The bias the region reads: the argument laid out as one row. -/
theorem V_v1 (c : Dev nD) (i : S1x2048.Idx) : V m c main_v1 i = m ((c : Thread nD τ).loc main_arg2) (ix1 (i 1)) := by
  entry_read
  pointwise

/-- The gate the region reads: the argument laid out as one row. -/
theorem V_v2 (c : Dev nD) (i : S1x2048.Idx) : V m c main_v2 i = m ((c : Thread nD τ).loc main_arg4) (ix1 (i 1)) := by
  entry_read
  pointwise

/-- One stored element is the reference's element at the place the block puts it. -/
theorem point (c : Dev nD) (t : Fin cfg0.N) (y) :
    k0_pay1 (iblk m c 0 t) (iblk m c 1 t) (iblk m c 2 t) (iblk m c 3 t) (iblk m c 4 t) y
      = Cert.ProjRefIdeal.Read.val_main_v8 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 5).blk t).view.emb y) := by
  rw [← Cert.ProjRefIdeal.Read.val_main_v8_eq]
  pointwise [k0_pay1]
  blk_simp [iblk, V_main_arg0, V_main_arg3, V_v0, V_v1, V_v2, idx t]
  blk_point [iblk, V_main_arg0, V_main_arg3, V_v0, V_v1, V_v2, idx t]
  all_goals first | refine (V_v1 m c _).trans ?_ | refine (V_v2 m c _).trans ?_
  all_goals blk_ext [idx t]

/-- The result array after the run. -/
theorem final (c : Dev nD) : (dats m 0 c).arrAt 5 cfg0.N
    = Cert.ProjRefIdeal.Read.val_main_v8 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v3)
        = Cert.ProjRefIdeal.Read.val_main_v8 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.ProjIdeal.Value.run_blocks m ρ)

end Cert.ProjIdeal.Tiles

end
-- ==== Proof.FfnRun.lean ====
/- The experts' call: the run of the routing layer's expert kernel, at every reading of its floats.
   A grid point works on one block of 256 rows. Three tables, read before the grid starts, say which two experts the
   block belongs to and whether the block holds any row: a block that does gets the sum of the two experts' outputs,
   each weighted row by row, and one that does not gets zeros. The run is stated for tables whose expert numbers lie in
   range and whose marks are zero or one. -/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.FfnIdeal.Blocks

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point -/

/-- A table as the body sees it: the whole of its array. -/
abbrev loM : Memref sig .tc .smem S88 .i32 := Memref.whole main_arg0
abbrev hiM : Memref sig .tc .smem S88 .i32 := Memref.whole main_arg1
abbrev liveM : Memref sig .tc .smem S88 .i32 := Memref.whole main_arg2

/-- The words of a table on core `c`. -/
abbrev Words (c : Dev nD) (M : Memref sig .tc .smem S88 .i32) : Type := Buf (Elt F) (M.view.loc (c : Thread nD τ))
/-- A table held for reading. -/
abbrev table (c : Dev nD) (M : Memref sig .tc .smem S88 .i32) (f : Words (F := F) c M) : sProp 𝕄 :=
  M.view.loc (c : Thread nD τ) ↦{fullShare.right} f

/-- The word of a table that belongs to grid point `i`. -/
def word (f : Vec F S88 .i32) (i : grid0.Coords) : BitVec 32 := f (fun | 0 => i 0)

/-- Where a table is read at grid point `i`. -/
theorem off_eq (i : grid0.Coords) : k0_off1 i = ![(i 0).val] := by
  have h : (i 0).val < 88 := (i 0).isLt
  funext a
  obtain rfl : a = 0 := Subsingleton.elim _ _
  simp only [k0_off1, Scalar.indexCast, Matrix.cons_val_zero, BitVec.toNat_ofNat]
  omega

/-- The mark the body reads is the mark of its block. -/
theorem read_live (c : Dev nD) (i : grid0.Coords) (tv : Words (F := F) c liveM) (h : ∀ a, (k0_off1 i) a + S1.size a ≤ S88.size a) (h' : 0 < (Rect.unit (s := S88) (k0_off1 i) S1.size h).toLoadRect.shape.numel) :
    View.readAt (Elt F) liveM.view (Rect.unit (s := S88) (k0_off1 i) S1.size h).toLoadRect tv (Shape.Idx.first h') = word tv i := by
  unfold word
  refine congrArg tv ?_
  funext (a : Fin 1)
  obtain rfl : a = 0 := Subsingleton.elim _ _
  apply Fin.ext
  exact (Nat.add_zero _).trans (congrFun (off_eq i) 0)

/-- The same word, at the second place the body reads it. -/
theorem read_live' (c : Dev nD) (i : grid0.Coords) (tv : Words (F := F) c liveM) (h : ∀ a, (k0_off2 i) a + S1.size a ≤ S88.size a) (h' : 0 < (Rect.unit (s := S88) (k0_off2 i) S1.size h).toLoadRect.shape.numel) :
    View.readAt (Elt F) liveM.view (Rect.unit (s := S88) (k0_off2 i) S1.size h).toLoadRect tv (Shape.Idx.first h') = word tv i :=
  read_live c i tv h h'

/-- A block that holds rows: both experts' outputs, weighted and added. -/
def mixed (x : Vec F S256x2048 .f32) (w : Vec F S256x128 .f32) (gl ul : Vec F S1x2048x512 .bf16) (dl : Vec F S1x512x2048 .bf16)
    (gh uh : Vec F S1x2048x512 .bf16) (dh : Vec F S1x512x2048 .bf16) : Vec F S256x2048 .f32 :=
  k0_pay1 w (k0_pay4 x w gl ul dl) (k0_pay5 x gh uh dh)

/-- A block by its mark: the experts' rows, or zeros. -/
def rows (v : BitVec 32) (x : Vec F S256x2048 .f32) (w : Vec F S256x128 .f32) (gl ul : Vec F S1x2048x512 .bf16) (dl : Vec F S1x512x2048 .bf16)
    (gh uh : Vec F S1x2048x512 .bf16) (dh : Vec F S1x512x2048 .bf16) : Vec F S256x2048 .f32 :=
  if v = 1#32 then mixed x w gl ul dl gh uh dh else k0_pay2

set_option maxHeartbeats 1000000 in
/-- A block that holds rows. -/
theorem run_block (c : Dev nD) (i : grid0.Coords) (a4 : Memref sig .tc .vmem S256x2048 .f32) (ha4 : a4.IsWhole) (a5 : Memref sig .tc .vmem S256x128 .f32) (ha5 : a5.IsWhole) (a6 : Memref sig .tc .vmem S1x2048x512 .bf16) (ha6 : a6.IsWhole) (a7 : Memref sig .tc .vmem S1x2048x512 .bf16) (ha7 : a7.IsWhole) (a8 : Memref sig .tc .vmem S1x512x2048 .bf16) (ha8 : a8.IsWhole) (a9 : Memref sig .tc .vmem S1x2048x512 .bf16) (ha9 : a9.IsWhole) (a10 : Memref sig .tc .vmem S1x2048x512 .bf16) (ha10 : a10.IsWhole) (a11 : Memref sig .tc .vmem S1x512x2048 .bf16) (ha11 : a11.IsWhole) (a12 : Memref sig .tc .vmem S256x2048 .f32) (ha12 : a12.IsWhole)
    (x : Vec F S256x2048 .f32) (w : Vec F S256x128 .f32) (gl : Vec F S1x2048x512 .bf16) (ul : Vec F S1x2048x512 .bf16) (dl : Vec F S1x512x2048 .bf16) (gh : Vec F S1x2048x512 .bf16) (uh : Vec F S1x2048x512 .bf16) (dh : Vec F S1x512x2048 .bf16)
    (tl : Words (F := F) c loM) (th : Words (F := F) c hiM) (tv : Words (F := F) c liveM)
    (hv : word tv i = 0#32 ∨ word tv i = 1#32)
    (E : Set ℕ) (K : PUnit → sProp 𝕄) :
    iprop(owns (c : Thread nD τ) a4 fullShare x ∗ owns (c : Thread nD τ) a5 fullShare w ∗ owns (c : Thread nD τ) a6 fullShare gl ∗ owns (c : Thread nD τ) a7 fullShare ul ∗ owns (c : Thread nD τ) a8 fullShare dl ∗ owns (c : Thread nD τ) a9 fullShare gh ∗ owns (c : Thread nD τ) a10 fullShare uh ∗ owns (c : Thread nD τ) a11 fullShare dh ∗ (∃ d, owns (c : Thread nD τ) a12 fullShare d) ∗ table c loM tl ∗ table c hiM th ∗ table c liveM tv
        ∗ (iprop(owns (c : Thread nD τ) a4 fullShare x ∗ owns (c : Thread nD τ) a5 fullShare w ∗ owns (c : Thread nD τ) a6 fullShare gl ∗ owns (c : Thread nD τ) a7 fullShare ul ∗ owns (c : Thread nD τ) a8 fullShare dl ∗ owns (c : Thread nD τ) a9 fullShare gh ∗ owns (c : Thread nD τ) a10 fullShare uh ∗ owns (c : Thread nD τ) a11 fullShare dh ∗ owns (c : Thread nD τ) a12 fullShare (rows (word tv i) x w gl ul dl gh uh dh) ∗ table c loM tl ∗ table c hiM th ∗ table c liveM tv) -∗ K ⟨⟩))
      ⊢ wp frame (wpE (defs₀ (F := F)) Variants.none c none) E
          (cc0_ffn i loM (Memref.isWhole_whole _) hiM (Memref.isWhole_whole _) liveM (Memref.isWhole_whole _) a4 ha4 a5 ha5 a6 ha6 a7 ha7 a8 ha8 a9 ha9 a10 ha10 a11 ha11 a12 ha12) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, T0, T1, T2, Hk⟩
  obtain rfl := ha4.eq_unread hf0; obtain rfl := ha5.eq_unread hf1; obtain rfl := ha6.eq_unread hf2; obtain rfl := ha7.eq_unread hf3; obtain rfl := ha8.eq_unread hf4; obtain rfl := ha9.eq_unread hf5; obtain rfl := ha10.eq_unread hf6; obtain rfl := ha11.eq_unread hf7
  sl_exec
  sl_step
  iapply Hk
  isplitl [H0]
  · iexists _; isplitr; · ipureintro; exact ha4.read_unread _
    iexact H0
  isplitl [H1]
  · iexists _; isplitr; · ipureintro; exact ha5.read_unread _
    iexact H1
  isplitl [H2]
  · iexists _; isplitr; · ipureintro; exact ha6.read_unread _
    iexact H2
  isplitl [H3]
  · iexists _; isplitr; · ipureintro; exact ha7.read_unread _
    iexact H3
  isplitl [H4]
  · iexists _; isplitr; · ipureintro; exact ha8.read_unread _
    iexact H4
  isplitl [H5]
  · iexists _; isplitr; · ipureintro; exact ha9.read_unread _
    iexact H5
  isplitl [H6]
  · iexists _; isplitr; · ipureintro; exact ha10.read_unread _
    iexact H6
  isplitl [H7]
  · iexists _; isplitr; · ipureintro; exact ha11.read_unread _
    iexact H7
  isplitl [H8]
  · iexists _; isplitr
    swap; · iexact H8
    ipureintro
    unfold run_block.sl.r run_block.sl.r_1 run_block.sl.r_2 run_block.sl.r_3 run_block.sl.r_4
    unfold rows mixed
    rw [read_live c i tv, read_live' c i tv]
    rcases hv with hv | hv
    all_goals rw [hv]
    · rw [dif_pos (show k0_cond2 0#32 = 1#1 from rfl), if_neg (by decide)]
      exact View.read_writes_full _ _ _ _ _
    · rw [dif_neg (show ¬k0_cond2 1#32 = 1#1 by decide), dif_pos (show k0_cond1 1#32 = 1#1 from rfl), if_pos rfl]
      refine (View.read_writes_full _ _ _ _ _).trans ?_
      all_goals simp (disch := decide) only [View.readAt_eq_ld, View.ld_unit_lit', Memref.IsWhole.read_unread]
  isplitl [T0]; · iexact T0
  isplitl [T1]; · iexact T1
  iexact T2

end Cert.FfnIdeal.Blocks

end
-- ==== Proof.FfnFrame.lean ====
/- The experts' call: its launch. Every input block a grid point finds is the block of its array that the tables name,
   every point writes its own block of the result, and at the end the result array is what those blocks make up while
   the arguments are as they were and every semaphore is back at zero. -/
module

public import proofs.«01_k».proof.Proof.FfnRun

@[expose] public section

set_option maxRecDepth 16384

noncomputable section

namespace Cert.FfnIdeal.Blocks

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the grid finds -/

/-- Core `c`'s arrays when the grid starts: the weights rounded, everything else as given. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
/-- The program up to the grid. -/
theorem entry : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh main_chain

/-- An array that none of the three casts writes is as given. -/
theorem V_of_ne (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.unary_writes, Finset.mem_singleton]
    exact ⟨StableHlo.devRef_ne_of_ne h0, StableHlo.devRef_ne_of_ne h1, StableHlo.devRef_ne_of_ne h2⟩))

/-- The tables. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl

/-- Every block the tables name lies inside its array. -/
abbrev Ok : Prop := ok0 (F := F) (tbl m)
/-- Every mark is zero or one. -/
def Marked : Prop := ∀ i : grid0.Coords, word (F := F) (tbl m 2) i = 0#32 ∨ word (F := F) (tbl m 2) i = 1#32

/-- The tables as the launch takes them, and the pipeline at them. -/
abbrev adm (hO : Ok m) : (pcfg0 (F := F)).Adm := ⟨tbl m, hO⟩
abbrev cfgM (hO : Ok m) : Pipeline.Cfg sig Λ₀ := cfg0 (adm m hO)

/-- The tables' halves that the grid lends the body, table by table. -/
theorem lent_eq (c : Dev nD) : (Pipeline.ΦT pre0 (tbl m) c : sProp 𝕄)
    = iprop(table c loM (tbl m 0) ∗ table c hiM (tbl m 1) ∗ table c liveM (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What point `t` leaves in the result's buffer. -/
def left (hO : Ok m) (c : Dev nD) (t : Fin (cfgM m hO).N) : Vec F S256x2048 .f32 :=
  rows (word (F := F) (tbl m 2) (grid0.coords t)) (iblk m hO c 0 t) (iblk m hO c 1 t) (iblk m hO c 2 t) (iblk m hO c 3 t) (iblk m hO c 4 t)
    (iblk m hO c 5 t) (iblk m hO c 6 t) (iblk m hO c 7 t)

/-! ## The proof data of the grid -/

/-- Inputs keep their blocks, the result's buffer ends at `left`, nothing is owed, arrays staged by two windows are
    shared between them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => left m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = iblk m hO c 7 t := by dsimp only [dats]; try rfl
theorem after_8 (hO : Ok m) (c : Dev nD) (t : Fin (cfgM m hO).N) : (dats m hO 0 c).after 8 t = left m hO c t := by dsimp only [dats]; try rfl

/-- An input's buffer holds its block whether or not the block was fetched at this very point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The body at a grid point -/

/-- The body on the buffers of point `t`. -/
abbrev bodyAt (hO : Ok m) (t : Fin (cfgM m hO).N) : Prog (TpuEff nD τ sig (Elt F) Λ₀ .tc) PUnit :=
  cc0_ffn (grid0.coords t) loM (Memref.isWhole_whole _) hiM (Memref.isWhole_whole _) liveM (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4))
    (spec0_5.stage ((cfgM m hO).slots t 5)) (hstage0_5 (((cfgM m hO).slots t 5).cast nbuf0_5))
    (spec0_6.stage ((cfgM m hO).slots t 6)) (hstage0_6 (((cfgM m hO).slots t 6).cast nbuf0_6))
    (spec0_7.stage ((cfgM m hO).slots t 7)) (hstage0_7 (((cfgM m hO).slots t 7).cast nbuf0_7))
    (spec0_8.stage ((cfgM m hO).slots t 8)) (hstage0_8 (((cfgM m hO).slots t 8).cast nbuf0_8))

/-- What the body is handed at point `t`, and what it hands back. -/
def before (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d))
    ∗ (∃ d, owns (c : Thread nD τ) (spec0_8.stage ((cfgM m hO).slots t 8)) fullShare ((dats m hO 0 c).before 8 t d)))
def afterwards (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ owns (c : Thread nD τ) (spec0_7.stage ((cfgM m hO).slots t 7)) fullShare ((dats m hO 0 c).after 7 t)
    ∗ owns (c : Thread nD τ) (spec0_8.stage ((cfgM m hO).slots t 8)) fullShare ((dats m hO 0 c).after 8 t))

set_option maxHeartbeats 800000 in
/-- The body at a point: one application of the run. -/
theorem at_point (hO : Ok m) (hM : Marked m) (c : Dev nD) (t : Fin (cfgM m hO).N) :
    before m hO c t ⊢ wp frame (wpE (defs₀ (F := F)) Variants.none c none) Set.univ (bodyAt m hO t) (fun _ => afterwards m hO c t) := by
  unfold before afterwards bodyAt
  simp only [before_0, before_1, before_2, before_3, before_4, before_5, before_6, before_7]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7, after_8]
  rw [show (dats m hO 0 c).Φ t.castSucc = iprop(Pipeline.ΦA spec0 c ∗ Pipeline.ΦT pre0 (tbl m) c) from rfl, lent_eq]
  iintro ⟨⟨HΦ, T0, T1, T2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_block c (grid0.coords t) _ _ _ _ _ _ _ _ _ _ _ _ _ _ _ _ _ _ (iblk m hO c 0 t) (iblk m hO c 1 t) (iblk m hO c 2 t) (iblk m hO c 3 t)
    (iblk m hO c 4 t) (iblk m hO c 5 t) (iblk m hO c 6 t) (iblk m hO c 7 t) (tbl m 0) (tbl m 1) (tbl m 2) (hM _) Set.univ _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [T0]; · iexact T0
  isplitl [T1]; · iexact T1
  isplitl [T2]; · iexact T2
  iintro ⟨H0, H1, H2, H3, H4, H5, H6, H7, H8, T0, T1, T2⟩
  isplitl [HΦ T0 T1 T2]
  · isplitl [HΦ]; · iexact HΦ
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body as the launch calls it. -/
theorem called (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is another at every point, so every point writes it back. -/
theorem flush_8 (hO : Ok m) : ∀ t : Fin (cfgM m hO).N, ((cfgM m hO).win 8).flush t = true :=
  (fun t => (Pipeline.Window.flushOf_reads cc0_transform_8 reads0_8 hreads0_8 0 (by decide) (by decide)
    (Pipeline.Window.sep_of_coord cc0_transform_8 0 0 (fun _ => rfl) (by decide)) (P := 1) (m := 0) (by decide) rfl t).mpr (Nat.mod_one _)
    : ∀ t : Fin grid0.N, Pipeline.Window.flushOf grid0 true cc0_transform_8 t = true)

/-- What a point leaves in the result's buffer is what is asked of it, whatever the mark says. -/
theorem leaves_8 (hO : Ok m) (c : Dev nD) (t : Fin (cfgM m hO).N) :
    owns (c : Thread nD τ) (spec0_8.stage ((cfgM m hO).slots t 8)) fullShare ((dats m hO 0 c).after 8 t)
      ⊢ ((dats (F := F) m hO 0 c).leavesExact 8 t : sProp 𝕄) := by
  unfold Dat.leavesExact
  rw [flush_8 m hO t]
  cases (cfgM m hO).idle 8 ((cfgM m hO).grid.coords t) <;> exact .rfl

theorem body (hO : Ok m) (hM : Marked m) (c : Dev nD) : BodyObligation (dats (F := F) m hO 0 c) (defs₀ (F := F)) Variants.none () Set.univ := fun t => by
  rw [bigSep_W0, bigSep_W0, called m hO]
  refine triple_restated (at_point m hO hM c t) rfl .rfl fun _ => ?_
  unfold afterwards
  exact sep_mono .rfl (sep_mono .rfl (sep_mono .rfl (sep_mono .rfl (sep_mono .rfl (sep_mono .rfl (sep_mono .rfl
    (sep_mono .rfl (sep_mono .rfl (sep_mono .rfl (leaves_8 m hO c t))))))))))

/-! ## The run -/

set_option backward.isDefEq.respectTransparency.types false in
/-- The whole program runs to the end: the staged arrays hold what the proof data computes, the others what the grid
    found, and every semaphore is at zero. -/
theorem run (hO : Ok m) (hM : Marked m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body m hO hM c).loose) (hq := fun _ _ _ => rfl) (howed := fun _ _ => rfl) (V := V m) (hmain := entry m)
    (hA := A_eq m hO) (hpf := V_tbl m) (hΦ := fun _ _ => rfl)

/-- The run, read at the result and the arguments. -/
theorem run_args (hO : Ok m) (hM : Marked m) : θ_run defs (onTc (τ := τ) (main (F := F))) ⟨m, fun _ => 0, ρ⟩ (fun r => (∀ c : Dev nD,
      r.2.mem ((c.tc : Thread nD τ).loc main_v3) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 8,
    ((h.1 c).2 main_arg0 (by decide : main_arg0 ∈ Pipeline.restRefs sig spec0)).trans (V_of_ne m c main_arg0 (by decide) (by decide) (by decide)),
    ((h.1 c).2 main_arg1 (by decide : main_arg1 ∈ Pipeline.restRefs sig spec0)).trans (V_of_ne m c main_arg1 (by decide) (by decide) (by decide)),
    ((h.1 c).2 main_arg2 (by decide : main_arg2 ∈ Pipeline.restRefs sig spec0)).trans (V_of_ne m c main_arg2 (by decide) (by decide) (by decide)),
    ((h.1 c).1 0).trans (((dats m hO 0 c).arrAt_in 0 rfl _).trans ((A_eq m hO c 0).trans (V_of_ne m c main_arg3 (by decide) (by decide) (by decide)))),
    ((h.1 c).1 1).trans (((dats m hO 0 c).arrAt_in 1 rfl _).trans ((A_eq m hO c 1).trans (V_of_ne m c main_arg4 (by decide) (by decide) (by decide)))),
    ((h.1 c).2 main_arg5 (by decide : main_arg5 ∈ Pipeline.restRefs sig spec0)).trans (V_of_ne m c main_arg5 (by decide) (by decide) (by decide)),
    ((h.1 c).2 main_arg6 (by decide : main_arg6 ∈ Pipeline.restRefs sig spec0)).trans (V_of_ne m c main_arg6 (by decide) (by decide) (by decide)),
    ((h.1 c).2 main_arg7 (by decide : main_arg7 ∈ Pipeline.restRefs sig spec0)).trans (V_of_ne m c main_arg7 (by decide) (by decide) (by decide))⟩, h.2⟩)
    (run m ρ hO hM)

end Cert.FfnIdeal.Blocks

end
-- ==== Proof.FfnPre.lean ====
/- The experts' call: what its precondition says, word by word, and that tables which meet it name blocks inside their
   arrays and marks of zero or one. -/
module

public import proofs.«01_k».proof.Proof.FfnFrame
public import proofs.«01_k».proof.Pre_blocks_named
public import Idealize.ShloMosaic.Lib.StableHlo.Predicate

@[expose] public section

set_option maxRecDepth 16384

noncomputable section

namespace Cert.FfnIdeal.Blocks

open Cert.FfnIdeal Cert.FfnIdeal.Gen
open Idealize.ShloMosaic Idealize.ShloMosaic.TcCoe

/-! ## Words -/

theorem both_set : ∀ a b : BitVec 1, a &&& b = 1#1 → a = 1#1 ∧ b = 1#1 := by decide

/-- A word between zero and sixteen, by its signed comparisons. -/
theorem lt_of_signed {x : BitVec 32} (h0 : IntOp.cmpi .sge x 0#32 = 1#1) (h1 : IntOp.cmpi .slt x 16#32 = 1#1) : x.toNat < 16 := by
  simp only [IntOp.cmpi, StableHlo.Predicate.ofBool_eq_one_iff] at h0 h1
  simp only [BitVec.sle, BitVec.slt, decide_eq_true_eq, BitVec.toInt_eq_toNat_cond, BitVec.toNat_ofNat] at h0 h1
  have := x.isLt
  split_ifs at h0 h1 <;> omega

/-- A word that is zero or one, by its signed comparisons. -/
theorem bit_of_signed {x : BitVec 32} (h0 : IntOp.cmpi .sge x 0#32 = 1#1) (h1 : IntOp.cmpi .sle x 1#32 = 1#1) : x = 0#32 ∨ x = 1#32 := by
  simp only [IntOp.cmpi, StableHlo.Predicate.ofBool_eq_one_iff] at h0 h1
  simp only [BitVec.sle, decide_eq_true_eq, BitVec.toInt_eq_toNat_cond, BitVec.toNat_ofNat] at h0 h1
  have := x.isLt
  have hx : x.toNat = 0 ∨ x.toNat = 1 := by split_ifs at h0 h1 <;> omega
  rcases hx with h | h
  · exact .inl (BitVec.eq_of_toNat_eq h)
  · exact .inr (BitVec.eq_of_toNat_eq h)

variable {F : FTy → Type} [FloatOps F]

/-- The precondition at one block. -/
theorem pre_at [Cert.Pre_blocks_named.Facts] {a0 a1 a2 : IVec S88 32} {a3 : FVec F S22528x2048 .f32} {a4 : FVec F S22528x128 .f32}
    {a5 a6 : FVec F S16x2048x512 .f32} {a7 : FVec F S16x512x2048 .f32}
    (h : Cert.Pre_blocks_named.fn (F := F) a0 a1 a2 a3 a4 a5 a6 a7 = fun _ => 1#1) (j : S88.Idx) :
    (a0 j).toNat < 16 ∧ (a1 j).toNat < 16 ∧ (a2 j = 0#32 ∨ a2 j = 1#32) := by
  have h' : ((((((IntOp.cmpi .sge (a0 j) 0#32 &&& IntOp.cmpi .slt (a0 j) 16#32) &&& IntOp.cmpi .sge (a1 j) 0#32) &&& IntOp.cmpi .slt (a1 j) 16#32)
      &&& IntOp.cmpi .sge (a2 j) 0#32) &&& IntOp.cmpi .sle (a2 j) 1#32)) = 1#1 := congrFun h j
  obtain ⟨h', p5⟩ := both_set _ _ h'
  obtain ⟨h', p4⟩ := both_set _ _ h'
  obtain ⟨h', p3⟩ := both_set _ _ h'
  obtain ⟨h', p2⟩ := both_set _ _ h'
  obtain ⟨p0, p1⟩ := both_set _ _ h'
  exact ⟨lt_of_signed p0 p1, lt_of_signed p2 p3, bit_of_signed p4 p5⟩

/-! ## The blocks the tables name -/

/-- The word a block index reads is the word of the grid point. -/
theorem at_word (pf : pre0.Contents (Elt F)) (i : grid0.Coords) (h) (h1) :
    (pf.at 0 (Rect.unit (s := S88) ![(Scalar.indexCast (BitVec.ofNat 32 (i 0).val)).toNat] S1.size h) h1 : BitVec 32) = word (F := F) (pf 0) i := by
  unfold word
  refine congrArg (pf 0) ?_
  funext (a : Fin 1)
  obtain rfl : a = 0 := Subsingleton.elim _ _
  apply Fin.ext
  exact (Nat.add_zero _).trans (congrFun (off_eq i) 0)
theorem at_word' (pf : pre0.Contents (Elt F)) (i : grid0.Coords) (h) (h1) :
    (pf.at 1 (Rect.unit (s := S88) ![(Scalar.indexCast (BitVec.ofNat 32 (i 0).val)).toNat] S1.size h) h1 : BitVec 32) = word (F := F) (pf 1) i := by
  unfold word
  refine congrArg (pf 1) ?_
  funext (a : Fin 1)
  obtain rfl : a = 0 := Subsingleton.elim _ _
  apply Fin.ext
  exact (Nat.add_zero _).trans (congrFun (off_eq i) 0)

theorem ix_2 (pf : pre0.Contents (Elt F)) (i : grid0.Coords) : cc0_transform_2 k0_off1_inb numel1_S1 pf i = ![(word (F := F) (pf 0) i).toNat, 0, 0] :=
  congrArg (fun x : BitVec 32 => (![x.toNat, 0, 0] : Fin 3 → Nat)) (at_word pf i (k0_off1_inb i) numel1_S1)
theorem ix_3 (pf : pre0.Contents (Elt F)) (i : grid0.Coords) : cc0_transform_3 k0_off1_inb numel1_S1 pf i = ![(word (F := F) (pf 0) i).toNat, 0, 0] :=
  congrArg (fun x : BitVec 32 => (![x.toNat, 0, 0] : Fin 3 → Nat)) (at_word pf i (k0_off1_inb i) numel1_S1)
theorem ix_4 (pf : pre0.Contents (Elt F)) (i : grid0.Coords) : cc0_transform_4 k0_off1_inb numel1_S1 pf i = ![(word (F := F) (pf 0) i).toNat, 0, 0] :=
  congrArg (fun x : BitVec 32 => (![x.toNat, 0, 0] : Fin 3 → Nat)) (at_word pf i (k0_off1_inb i) numel1_S1)
theorem ix_5 (pf : pre0.Contents (Elt F)) (i : grid0.Coords) : cc0_transform_5 k0_off1_inb numel1_S1 pf i = ![(word (F := F) (pf 1) i).toNat, 0, 0] :=
  congrArg (fun x : BitVec 32 => (![x.toNat, 0, 0] : Fin 3 → Nat)) (at_word' pf i (k0_off1_inb i) numel1_S1)
theorem ix_6 (pf : pre0.Contents (Elt F)) (i : grid0.Coords) : cc0_transform_6 k0_off1_inb numel1_S1 pf i = ![(word (F := F) (pf 1) i).toNat, 0, 0] :=
  congrArg (fun x : BitVec 32 => (![x.toNat, 0, 0] : Fin 3 → Nat)) (at_word' pf i (k0_off1_inb i) numel1_S1)
theorem ix_7 (pf : pre0.Contents (Elt F)) (i : grid0.Coords) : cc0_transform_7 k0_off1_inb numel1_S1 pf i = ![(word (F := F) (pf 1) i).toNat, 0, 0] :=
  congrArg (fun x : BitVec 32 => (![x.toNat, 0, 0] : Fin 3 → Nat)) (at_word' pf i (k0_off1_inb i) numel1_S1)

/-- One expert's slab lies inside its array and its transfer moves whole words. -/
theorem slab_up (n : Nat) (hn : n < 16) : ∃ h : (∀ a, ((![n, 0, 0] : Fin 3 → Nat) a + 1) * S1x2048x512.size a ≤ S16x2048x512.size a),
    EltTy.bits .bf16 = 32 ∨ (Rect.block (s := S16x2048x512) S1x2048x512.size ![n, 0, 0] h).WholeWords (EltTy.packing .bf16) :=
  ⟨fun a => match a with
    | ⟨0, _⟩ => (by show (n + 1) * 1 ≤ 16; omega)
    | ⟨1, _⟩ => (by show (0 + 1) * 2048 ≤ 2048; omega)
    | ⟨2, _⟩ => (by show (0 + 1) * 512 ≤ 512; omega),
   .inr (.inr ⟨(by show 2 ≤ 3; omega), rfl, rfl, rfl⟩)⟩
theorem slab_down (n : Nat) (hn : n < 16) : ∃ h : (∀ a, ((![n, 0, 0] : Fin 3 → Nat) a + 1) * S1x512x2048.size a ≤ S16x512x2048.size a),
    EltTy.bits .bf16 = 32 ∨ (Rect.block (s := S16x512x2048) S1x512x2048.size ![n, 0, 0] h).WholeWords (EltTy.packing .bf16) :=
  ⟨fun a => match a with
    | ⟨0, _⟩ => (by show (n + 1) * 1 ≤ 16; omega)
    | ⟨1, _⟩ => (by show (0 + 1) * 512 ≤ 512; omega)
    | ⟨2, _⟩ => (by show (0 + 1) * 2048 ≤ 2048; omega),
   .inr (.inr ⟨(by show 2 ≤ 3; omega), rfl, rfl, rfl⟩)⟩

/-- Tables that name only experts there are name blocks inside their arrays. -/
theorem ok_of_lt (pf : pre0.Contents (Elt F)) (h0 : ∀ i, (word (F := F) (pf 0) i).toNat < 16) (h1 : ∀ i, (word (F := F) (pf 1) i).toNat < 16) :
    ok0 (F := F) pf := by
  unfold ok0
  refine ⟨fun i => ?_, fun i => ?_, fun i => ?_, fun i => ?_, fun i => ?_, fun i => ?_⟩
  · simp only [ix_2]; exact slab_up _ (h0 i)
  · simp only [ix_3]; exact slab_up _ (h0 i)
  · simp only [ix_4]; exact slab_down _ (h0 i)
  · simp only [ix_5]; exact slab_up _ (h1 i)
  · simp only [ix_6]; exact slab_up _ (h1 i)
  · simp only [ix_7]; exact slab_down _ (h1 i)

variable (m : (ℓ : Loc nD τ sig) → Buf (Elt F) ℓ)

/-- The tables the launch reads are the arguments as given. -/
theorem tbl_0 : tbl m 0 = m (((0 : Dev nD) : Thread nD τ).loc main_arg0) := V_of_ne m 0 main_arg0 (by decide) (by decide) (by decide)
theorem tbl_1 : tbl m 1 = m (((0 : Dev nD) : Thread nD τ).loc main_arg1) := V_of_ne m 0 main_arg1 (by decide) (by decide) (by decide)
theorem tbl_2 : tbl m 2 = m (((0 : Dev nD) : Thread nD τ).loc main_arg2) := V_of_ne m 0 main_arg2 (by decide) (by decide) (by decide)

/-- The precondition, of a memory at any reading of its floats. -/
def Named [Cert.Pre_blocks_named.Facts] : Prop := ∀ c : Dev nD, Cert.Pre_blocks_named.fn (F := F) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7)) = fun _ => 1#1

/-- Under the precondition the first table's words, the second's and the marks are in range, -/
theorem lo_lt [Cert.Pre_blocks_named.Facts] (h : Named m) (i : grid0.Coords) : (word (F := F) (tbl m 0) i).toNat < 16 := by
  rw [tbl_0]; exact (pre_at (h 0) _).1
theorem hi_lt [Cert.Pre_blocks_named.Facts] (h : Named m) (i : grid0.Coords) : (word (F := F) (tbl m 1) i).toNat < 16 := by
  rw [tbl_1]; exact (pre_at (h 0) _).2.1
theorem marked_of_named [Cert.Pre_blocks_named.Facts] (h : Named m) : Marked m := fun i => by
  rw [tbl_2]; exact (pre_at (h 0) _).2.2
/-- so the blocks lie inside their arrays. -/
theorem ok_of_named [Cert.Pre_blocks_named.Facts] (h : Named m) : Ok m := ok_of_lt _ (lo_lt m h) (hi_lt m h)

end Cert.FfnIdeal.Blocks

end
-- ==== Proof.FfnValue.lean ====
/- The experts' call: what its kernel leaves in the result array is the reference's term.
   A block's rows are the two experts' outputs weighted row by row and added, or zeros. The kernel takes an expert's
   weights as the block of the array the table names, the reference takes them by a lookup. -/
module

public import proofs.«01_k».proof.Proof.FfnPre
public import proofs.«01_k».proof.Proof.Gen.FfnRefIdeal.Read
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- One element of an expert's output: of a row `x`, the expert's gate and up weights and one column of its down
    weights. -/
def Cert.expert (x : Fin 2048 → EReal) (g u : Fin 2048 → Fin 512 → EReal) (d : Fin 512 → EReal) : EReal :=
  ∑ j, ((∑ k, x k * g k j) * Ideal.div 1 (1 + Ideal.exp (-∑ k, x k * g k j)) * ∑ k, x k * u k j) * d j

/-! ## The reference at an element -/

namespace Cert.FfnRefIdeal.Take

open Cert.FfnRefIdeal Cert.FfnRefIdeal.Gen Cert.FfnRefIdeal.Read

/-- An expert's slab taken by its number, at an index. -/
theorem take_up {α : Type} (x : S16x2048x512.Idx → α) (idx : IVec S88x1 32) (y : S88x2048x512.Idx) :
    Host.gather gather_S16x2048x512_S88x1_S88x2048x512_12_0_n_n_0_1_12048512 x idx y
      = x (ix3 ⟨min (idx (ix2 (y 0) 0)).toInt.toNat 15, by omega⟩ (y 1) (y 2)) := by
  unfold Host.gather
  refine congrArg x (funext fun a => Fin.ext ?_)
  show (gather_S16x2048x512_S88x1_S88x2048x512_12_0_n_n_0_1_12048512).start y idx a + (gather_S16x2048x512_S88x1_S88x2048x512_12_0_n_n_0_1_12048512).batchCoord y a + (gather_S16x2048x512_S88x1_S88x2048x512_12_0_n_n_0_1_12048512).offCoord y a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (gather_S16x2048x512_S88x1_S88x2048x512_12_0_n_n_0_1_12048512).startIndexMap from List.mem_singleton.mpr rfl)]
    have hsi : (gather_S16x2048x512_S88x1_S88x2048x512_12_0_n_n_0_1_12048512).siIdx y ⟨List.idxOf (0 : Fin 3) (gather_S16x2048x512_S88x1_S88x2048x512_12_0_n_n_0_1_12048512).startIndexMap,
        List.idxOf_lt_length_iff.2 (List.mem_singleton.mpr rfl)⟩ = ix2 (y 0) 0 := by
      funext b; refine Fin.ext ?_
      match b with
      | ⟨0, _⟩ => rfl
      | ⟨1, _⟩ => rfl
    exact congrArg (fun q => min (idx q).toInt.toNat 15) hsi
  · unfold GatherDims.start
    rw [dif_neg (show ¬ (1 : Fin 3) ∈ (gather_S16x2048x512_S88x1_S88x2048x512_12_0_n_n_0_1_12048512).startIndexMap by decide)]
    exact (Nat.zero_add _).trans rfl
  · unfold GatherDims.start
    rw [dif_neg (show ¬ (2 : Fin 3) ∈ (gather_S16x2048x512_S88x1_S88x2048x512_12_0_n_n_0_1_12048512).startIndexMap by decide)]
    exact (Nat.zero_add _).trans rfl

/-- An expert's slab taken by its number, at an index. -/
theorem take_down {α : Type} (x : S16x512x2048.Idx → α) (idx : IVec S88x1 32) (y : S88x512x2048.Idx) :
    Host.gather gather_S16x512x2048_S88x1_S88x512x2048_12_0_n_n_0_1_15122048 x idx y
      = x (ix3 ⟨min (idx (ix2 (y 0) 0)).toInt.toNat 15, by omega⟩ (y 1) (y 2)) := by
  unfold Host.gather
  refine congrArg x (funext fun a => Fin.ext ?_)
  show (gather_S16x512x2048_S88x1_S88x512x2048_12_0_n_n_0_1_15122048).start y idx a + (gather_S16x512x2048_S88x1_S88x512x2048_12_0_n_n_0_1_15122048).batchCoord y a + (gather_S16x512x2048_S88x1_S88x512x2048_12_0_n_n_0_1_15122048).offCoord y a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (gather_S16x512x2048_S88x1_S88x512x2048_12_0_n_n_0_1_15122048).startIndexMap from List.mem_singleton.mpr rfl)]
    have hsi : (gather_S16x512x2048_S88x1_S88x512x2048_12_0_n_n_0_1_15122048).siIdx y ⟨List.idxOf (0 : Fin 3) (gather_S16x512x2048_S88x1_S88x512x2048_12_0_n_n_0_1_15122048).startIndexMap,
        List.idxOf_lt_length_iff.2 (List.mem_singleton.mpr rfl)⟩ = ix2 (y 0) 0 := by
      funext b; refine Fin.ext ?_
      match b with
      | ⟨0, _⟩ => rfl
      | ⟨1, _⟩ => rfl
    exact congrArg (fun q => min (idx q).toInt.toNat 15) hsi
  · unfold GatherDims.start
    rw [dif_neg (show ¬ (1 : Fin 3) ∈ (gather_S16x512x2048_S88x1_S88x512x2048_12_0_n_n_0_1_15122048).startIndexMap by decide)]
    exact (Nat.zero_add _).trans rfl
  · unfold GatherDims.start
    rw [dif_neg (show ¬ (2 : Fin 3) ∈ (gather_S16x512x2048_S88x1_S88x512x2048_12_0_n_n_0_1_15122048).startIndexMap by decide)]
    exact (Nat.zero_add _).trans rfl

variable (x0 x1 x2 : (⟨S88, .i32⟩ : BufTy).Contents (Elt Ideal)) (x3 : (⟨S22528x2048, .f32⟩ : BufTy).Contents (Elt Ideal))
  (x4 : (⟨S22528x128, .f32⟩ : BufTy).Contents (Elt Ideal)) (x5 x6 : (⟨S16x2048x512, .f32⟩ : BufTy).Contents (Elt Ideal))
  (x7 : (⟨S16x512x2048, .f32⟩ : BufTy).Contents (Elt Ideal))

/-- A number below sixteen is looked up as it is. -/
theorem clip_eq (w : BitVec 32) (h : w.toNat < 16) : min w.toInt.toNat 15 = w.toNat := by
  rw [StableHlo.Predicate.toInt_eq_toNat_of_lt (by omega)]
  omega

/-- The first expert's output, -/
theorem lo_at (y : S88x256x2048.Idx) (e : Fin 16) (h : (x0 (ix1 (y 0))).toNat = e.val) :
    (val_main_v9 (F := Ideal) x0 x3 x5 x6 x7 y : Elt Ideal .f32)
      = Cert.expert (fun k => x3 (ix2 ⟨(y 0).val * 256 + (y 1).val, by have h0 : (y 0).val < 88 := (y 0).isLt; have h1 : (y 1).val < 256 := (y 1).isLt; omega⟩ k))
          (fun k j => x5 (ix3 e k j)) (fun k j => x6 (ix3 e k j)) (fun j => x7 (ix3 e j (y 2))) := by
  have he : ∀ p, (⟨min (x0 (ix1 (y 0))).toInt.toNat 15, p⟩ : Fin 16) = e := fun p =>
    Fin.ext ((clip_eq _ (h ▸ e.isLt)).trans h)
  unfold val_main_v9 val_main_v8 val_main_v7 val_main_v6 val_main_call3_v5 val_main_call3_v4 val_main_call3_v3 val_main_call3_v2
    val_main_call3_v1 val_main_call3_v0 val_main_call3_cst val_main_call3_cst_0 val_main_v5 val_main_v4 val_main_v3 val_main_v2
    val_main_v0 val_main_call0_v0 val_main_call1_v0 val_main_call2_v0
  pointwise [take_up, take_down]
  simp only [he]
  rfl

/-- and the second's. -/
theorem hi_at (y : S88x256x2048.Idx) (e : Fin 16) (h : (x1 (ix1 (y 0))).toNat = e.val) :
    (val_main_v20 (F := Ideal) x1 x3 x5 x6 x7 y : Elt Ideal .f32)
      = Cert.expert (fun k => x3 (ix2 ⟨(y 0).val * 256 + (y 1).val, by have h0 : (y 0).val < 88 := (y 0).isLt; have h1 : (y 1).val < 256 := (y 1).isLt; omega⟩ k))
          (fun k j => x5 (ix3 e k j)) (fun k j => x6 (ix3 e k j)) (fun j => x7 (ix3 e j (y 2))) := by
  have he : ∀ p, (⟨min (x1 (ix1 (y 0))).toInt.toNat 15, p⟩ : Fin 16) = e := fun p =>
    Fin.ext ((clip_eq _ (h ▸ e.isLt)).trans h)
  unfold val_main_v20 val_main_v19 val_main_v18 val_main_v17 val_main_call7_v5 val_main_call7_v4 val_main_call7_v3 val_main_call7_v2
    val_main_call7_v1 val_main_call7_v0 val_main_call7_cst val_main_call7_cst_0 val_main_v16 val_main_v15 val_main_v14 val_main_v13
    val_main_v0 val_main_call4_v0 val_main_call5_v0 val_main_call6_v0
  pointwise [take_up, take_down]
  simp only [he]
  rfl

/-- The result: the experts' outputs weighted and added where the block's mark is set, else zero. -/
theorem sum_at (y : S22528x2048.Idx) :
    (val_main_v29 (F := Ideal) x0 x1 x2 x3 x4 x5 x6 x7 y : Elt Ideal .f32)
      = if x2 (ix1 ⟨(y 0).val / 256, by have h0 : (y 0).val < 22528 := (y 0).isLt; omega⟩) = 1#32 then
          val_main_v9 (F := Ideal) x0 x3 x5 x6 x7 (ix3 ⟨(y 0).val / 256, by have h0 : (y 0).val < 22528 := (y 0).isLt; omega⟩ ⟨(y 0).val % 256, by omega⟩ (y 1)) * x4 (ix2 (y 0) 0)
          + val_main_v20 (F := Ideal) x1 x3 x5 x6 x7 (ix3 ⟨(y 0).val / 256, by have h0 : (y 0).val < 22528 := (y 0).isLt; omega⟩ ⟨(y 0).val % 256, by omega⟩ (y 1)) * x4 (ix2 (y 0) 1)
        else (0 : EReal) := by
  unfold val_main_v29 val_main_v28 val_main_call8_v1 val_main_call8_v2 val_main_call8_v0 val_main_cst val_main_v24 val_main_v12
    val_main_v23 val_main_v27 val_main_v25 val_main_v26 val_main_c val_main_v22 val_main_v21 val_main_v11 val_main_v10 val_main_v1
  generalize val_main_v9 (F := Ideal) x0 x3 x5 x6 x7 = lo
  generalize val_main_v20 (F := Ideal) x1 x3 x5 x6 x7 = hi
  pointwise
  by_cases h : x2 (ix1 ⟨(y 0).val / 256, by have h0 : (y 0).val < 22528 := (y 0).isLt; omega⟩) = 1#32
  · rw [if_pos h, h]
    rfl
  · rw [if_neg h, show IntOp.cmpi .eq (x2 (ix1 ⟨(y 0).val / 256, by have h0 : (y 0).val < 22528 := (y 0).isLt; omega⟩)) 1#32 = 0#1 from ?_]
    · exact Ideal.ofBits_zero_f32
    · exact (by
        have := (StableHlo.Predicate.cmpi_eq_iff (a := x2 (ix1 ⟨(y 0).val / 256, by have h0 : (y 0).val < 22528 := (y 0).isLt; omega⟩)) (b := 1#32)).not.mpr h
        revert this
        generalize IntOp.cmpi .eq _ _ = b
        revert b; decide)

/-- The same at row `r` of block `b`, the block's experts `e` and `e'`. -/
theorem row_at (b : Fin 88) (r : Fin 256) (q : Fin 2048) (i : Fin 22528) (hi : i.val = b.val * 256 + r.val) (e e' : Fin 16)
    (h0 : (x0 (ix1 b)).toNat = e.val) (h1 : (x1 (ix1 b)).toNat = e'.val) :
    (val_main_v29 (F := Ideal) x0 x1 x2 x3 x4 x5 x6 x7 (ix2 i q) : Elt Ideal .f32)
      = if x2 (ix1 b) = 1#32 then
          Cert.expert (fun k => x3 (ix2 i k)) (fun k j => x5 (ix3 e k j)) (fun k j => x6 (ix3 e k j)) (fun j => x7 (ix3 e j q)) * x4 (ix2 i 0)
          + Cert.expert (fun k => x3 (ix2 i k)) (fun k j => x5 (ix3 e' k j)) (fun k j => x6 (ix3 e' k j)) (fun j => x7 (ix3 e' j q)) * x4 (ix2 i 1)
        else (0 : EReal) := by
  have hb : ∀ p, (⟨i.val / 256, p⟩ : Fin 88) = b := fun p => Fin.ext (by show i.val / 256 = b.val; have := r.isLt; omega)
  have hr : ∀ p, (⟨i.val % 256, p⟩ : Fin 256) = r := fun p => Fin.ext (by show i.val % 256 = r.val; have := r.isLt; omega)
  have hx : ∀ p, (⟨b.val * 256 + r.val, p⟩ : Fin 22528) = i := fun p => Fin.ext hi.symm
  have hl := lo_at x0 x3 x5 x6 x7 (ix3 b r q) e h0
  have hh := hi_at x1 x3 x5 x6 x7 (ix3 b r q) e' h1
  have hs := sum_at x0 x1 x2 x3 x4 x5 x6 x7 (ix2 i q)
  simp only [ix2_0, ix2_1, ix3_0, ix3_1, ix3_2, hb, hr, hx] at hl hh hs
  rw [hl, hh] at hs
  exact hs

end Cert.FfnRefIdeal.Take

/-! ## The kernel at an element -/

namespace Cert.FfnIdeal.Blocks

open Cert.FfnIdeal Cert.FfnIdeal.Gen

/-- A block that holds rows, at an element. -/
theorem mixed_at (x : Vec Ideal S256x2048 .f32) (w : Vec Ideal S256x128 .f32) (gl ul : Vec Ideal S1x2048x512 .bf16) (dl : Vec Ideal S1x512x2048 .bf16)
    (gh uh : Vec Ideal S1x2048x512 .bf16) (dh : Vec Ideal S1x512x2048 .bf16) (y : S256x2048.Idx) :
    (mixed x w gl ul dl gh uh dh y : Elt Ideal .f32)
      = Cert.expert (fun k => x (ix2 (y 0) k)) (fun k j => gl (ix3 0 k j)) (fun k j => ul (ix3 0 k j)) (fun j => dl (ix3 0 j (y 1))) * w (ix2 (y 0) 0)
        + Cert.expert (fun k => x (ix2 (y 0) k)) (fun k j => gh (ix3 0 k j)) (fun k j => uh (ix3 0 k j)) (fun j => dh (ix3 0 j (y 1))) * w (ix2 (y 0) 1) := by
  unfold mixed
  pointwise [k0_pay1, k0_pay4, k0_pay5, k0_pay3, Ideal.logistic]
  rfl

/-- A block by its mark, at an element. -/
theorem rows_at (v : BitVec 32) (x : Vec Ideal S256x2048 .f32) (w : Vec Ideal S256x128 .f32) (gl ul : Vec Ideal S1x2048x512 .bf16) (dl : Vec Ideal S1x512x2048 .bf16)
    (gh uh : Vec Ideal S1x2048x512 .bf16) (dh : Vec Ideal S1x512x2048 .bf16) (r : Fin 256) (q : Fin 2048) :
    (rows v x w gl ul dl gh uh dh (ix2 r q) : Elt Ideal .f32)
      = if v = 1#32 then
          Cert.expert (fun k => x (ix2 r k)) (fun k j => gl (ix3 0 k j)) (fun k j => ul (ix3 0 k j)) (fun j => dl (ix3 0 j q)) * w (ix2 r 0)
          + Cert.expert (fun k => x (ix2 r k)) (fun k j => gh (ix3 0 k j)) (fun k j => uh (ix3 0 k j)) (fun j => dh (ix3 0 j q)) * w (ix2 r 1)
        else (0 : EReal) := by
  unfold rows
  by_cases h : v = 1#32
  · rw [if_pos h, if_pos h]
    exact mixed_at x w gl ul dl gh uh dh (ix2 r q)
  · rw [if_neg h, if_neg h]
    exact Ideal.ofBits_zero_f32

variable (m : (ℓ : Loc nD τ sig) → Buf (Elt Ideal) ℓ)

/-- The weights the grid finds: the arguments, their casts the identity at the ideal reading. -/
theorem V_v0 (c : Dev nD) (i : S16x2048x512.Idx) : V m c main_v0 i = m ((c : Thread nD τ).loc main_arg5) i := by
  entry_read
  rfl
theorem V_v1 (c : Dev nD) (i : S16x2048x512.Idx) : V m c main_v1 i = m ((c : Thread nD τ).loc main_arg6) i := by
  entry_read
  rfl
theorem V_v2 (c : Dev nD) (i : S16x512x2048.Idx) : V m c main_v2 i = m ((c : Thread nD τ).loc main_arg7) i := by
  entry_read
  rfl
theorem V_arg3 (c : Dev nD) : V m c main_arg3 = m ((c : Thread nD τ).loc main_arg3) := V_of_ne m c main_arg3 (by decide) (by decide) (by decide)
theorem V_arg4 (c : Dev nD) : V m c main_arg4 = m ((c : Thread nD τ).loc main_arg4) := V_of_ne m c main_arg4 (by decide) (by decide) (by decide)

/-- A grid point's one coordinate is its number. -/
theorem coord : ∀ t : Fin grid0.N, (grid0.coords t 0).val = t.val := by decide +kernel

/-- Row `r` of block `t`. -/
abbrev rowOf (t : Fin grid0.N) (r : Fin 256) : Fin 22528 := ⟨t.val * 256 + r.val, by have : t.val < 88 := t.isLt; omega⟩

variable (hO : Ok m)

/-- The block each window shows at a grid point: rows by the point's number, weights by the tables' words. -/
theorem idx_0 (t : Fin grid0.N) : ((cfgM m hO).win 0).index t = ![t.val, 0] :=
  (by decide +kernel : ∀ t : Fin grid0.N, cc0_transform_0 (grid0.coords t) = ![t.val, 0]) t
theorem idx_1 (t : Fin grid0.N) : ((cfgM m hO).win 1).index t = ![t.val, 0] :=
  (by decide +kernel : ∀ t : Fin grid0.N, cc0_transform_1 (grid0.coords t) = ![t.val, 0]) t
theorem idx_8 (t : Fin grid0.N) : ((cfgM m hO).win 8).index t = ![t.val, 0] :=
  (by decide +kernel : ∀ t : Fin grid0.N, cc0_transform_8 (grid0.coords t) = ![t.val, 0]) t
theorem idx_2 (t : Fin grid0.N) : ((cfgM m hO).win 2).index t = ![(word (F := Ideal) (tbl m 0) (grid0.coords t)).toNat, 0, 0] := ix_2 (tbl m) (grid0.coords t)
theorem idx_3 (t : Fin grid0.N) : ((cfgM m hO).win 3).index t = ![(word (F := Ideal) (tbl m 0) (grid0.coords t)).toNat, 0, 0] := ix_3 (tbl m) (grid0.coords t)
theorem idx_4 (t : Fin grid0.N) : ((cfgM m hO).win 4).index t = ![(word (F := Ideal) (tbl m 0) (grid0.coords t)).toNat, 0, 0] := ix_4 (tbl m) (grid0.coords t)
theorem idx_5 (t : Fin grid0.N) : ((cfgM m hO).win 5).index t = ![(word (F := Ideal) (tbl m 1) (grid0.coords t)).toNat, 0, 0] := ix_5 (tbl m) (grid0.coords t)
theorem idx_6 (t : Fin grid0.N) : ((cfgM m hO).win 6).index t = ![(word (F := Ideal) (tbl m 1) (grid0.coords t)).toNat, 0, 0] := ix_6 (tbl m) (grid0.coords t)
theorem idx_7 (t : Fin grid0.N) : ((cfgM m hO).win 7).index t = ![(word (F := Ideal) (tbl m 1) (grid0.coords t)).toNat, 0, 0] := ix_7 (tbl m) (grid0.coords t)

/-- What each window's block holds at an index, in the arguments. -/
theorem blk_0 (c : Dev nD) (t : Fin grid0.N) (r : Fin 256) (k : Fin 2048) :
    (iblk m hO c 0 t (ix2 r k) : Elt Ideal .f32) = m ((c : Thread nD τ).loc main_arg3) (ix2 (rowOf t r) k) := by
  blk_simp [iblk, V_arg3, idx_0 m hO t]
  blk_ext [idx_0 m hO t]
theorem blk_1 (c : Dev nD) (t : Fin grid0.N) (r : Fin 256) (k : Fin 128) :
    (iblk m hO c 1 t (ix2 r k) : Elt Ideal .f32) = m ((c : Thread nD τ).loc main_arg4) (ix2 (rowOf t r) k) := by
  blk_simp [iblk, V_arg4, idx_1 m hO t]
  blk_ext [idx_1 m hO t]
theorem blk_2 (c : Dev nD) (t : Fin grid0.N) (e : Fin 16) (h : (word (F := Ideal) (tbl m 0) (grid0.coords t)).toNat = e.val) (k : Fin 2048) (j : Fin 512) :
    (iblk m hO c 2 t (ix3 0 k j) : Elt Ideal .bf16) = m ((c : Thread nD τ).loc main_arg5) (ix3 e k j) := by
  blk_simp [iblk, V_v0, idx_2 m hO t]
  blk_ext [idx_2 m hO t]
theorem blk_3 (c : Dev nD) (t : Fin grid0.N) (e : Fin 16) (h : (word (F := Ideal) (tbl m 0) (grid0.coords t)).toNat = e.val) (k : Fin 2048) (j : Fin 512) :
    (iblk m hO c 3 t (ix3 0 k j) : Elt Ideal .bf16) = m ((c : Thread nD τ).loc main_arg6) (ix3 e k j) := by
  blk_simp [iblk, V_v1, idx_3 m hO t]
  blk_ext [idx_3 m hO t]
theorem blk_4 (c : Dev nD) (t : Fin grid0.N) (e : Fin 16) (h : (word (F := Ideal) (tbl m 0) (grid0.coords t)).toNat = e.val) (k : Fin 512) (j : Fin 2048) :
    (iblk m hO c 4 t (ix3 0 k j) : Elt Ideal .bf16) = m ((c : Thread nD τ).loc main_arg7) (ix3 e k j) := by
  blk_simp [iblk, V_v2, idx_4 m hO t]
  blk_ext [idx_4 m hO t]
theorem blk_5 (c : Dev nD) (t : Fin grid0.N) (e : Fin 16) (h : (word (F := Ideal) (tbl m 1) (grid0.coords t)).toNat = e.val) (k : Fin 2048) (j : Fin 512) :
    (iblk m hO c 5 t (ix3 0 k j) : Elt Ideal .bf16) = m ((c : Thread nD τ).loc main_arg5) (ix3 e k j) := by
  blk_simp [iblk, V_v0, idx_5 m hO t]
  blk_ext [idx_5 m hO t]
theorem blk_6 (c : Dev nD) (t : Fin grid0.N) (e : Fin 16) (h : (word (F := Ideal) (tbl m 1) (grid0.coords t)).toNat = e.val) (k : Fin 2048) (j : Fin 512) :
    (iblk m hO c 6 t (ix3 0 k j) : Elt Ideal .bf16) = m ((c : Thread nD τ).loc main_arg6) (ix3 e k j) := by
  blk_simp [iblk, V_v1, idx_6 m hO t]
  blk_ext [idx_6 m hO t]
theorem blk_7 (c : Dev nD) (t : Fin grid0.N) (e : Fin 16) (h : (word (F := Ideal) (tbl m 1) (grid0.coords t)).toNat = e.val) (k : Fin 512) (j : Fin 2048) :
    (iblk m hO c 7 t (ix3 0 k j) : Elt Ideal .bf16) = m ((c : Thread nD τ).loc main_arg7) (ix3 e k j) := by
  blk_simp [iblk, V_v2, idx_7 m hO t]
  blk_ext [idx_7 m hO t]

/-- The reference's result on core `c`'s arguments. -/
abbrev wanted (c : Dev nD) := Cert.FfnRefIdeal.Read.val_main_v29 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (m ((c : Thread nD τ).loc main_arg7))

/-- A table's word at a grid point is the argument's at the point's number. -/
theorem word_at (f : Vec Ideal S88 .i32) (t : Fin grid0.N) (b : Fin 88) (hb : b.val = t.val) : word (F := Ideal) f (grid0.coords t) = f (ix1 b) := by
  unfold word
  refine congrArg f ?_
  funext (a : Fin 1)
  obtain rfl : a = 0 := Subsingleton.elim _ _
  exact Fin.ext ((coord t).trans hb.symm)

/-- One element a grid point leaves is the reference's. -/
theorem point (hlo : ∀ i, (word (F := Ideal) (tbl m 0) i).toNat < 16) (hhi : ∀ i, (word (F := Ideal) (tbl m 1) i).toNat < 16)
    (c : Dev nD) (t : Fin grid0.N) (r : Fin 256) (q : Fin 2048) :
    (left m hO c t (ix2 r q) : Elt Ideal .f32) = wanted m c (ix2 (rowOf t r) q) := by
  obtain rfl : c = 0 := Subsingleton.elim _ _
  have ht : t.val < 88 := t.isLt
  have e0 := word_at (tbl m 0) t ⟨t.val, ht⟩ rfl
  have e1 := word_at (tbl m 1) t ⟨t.val, ht⟩ rfl
  have e2 := word_at (tbl m 2) t ⟨t.val, ht⟩ rfl
  obtain ⟨e, he⟩ : ∃ e : Fin 16, (word (F := Ideal) (tbl m 0) (grid0.coords t)).toNat = e.val := ⟨⟨_, hlo _⟩, rfl⟩
  obtain ⟨e', he'⟩ : ∃ e : Fin 16, (word (F := Ideal) (tbl m 1) (grid0.coords t)).toNat = e.val := ⟨⟨_, hhi _⟩, rfl⟩
  refine Eq.trans ?_ (Cert.FfnRefIdeal.Take.row_at _ _ _ _ _ _ _ _ ⟨t.val, ht⟩ r q (rowOf t r) rfl e e'
    (by rw [← he, e0, tbl_0]) (by rw [← he', e1, tbl_1])).symm
  unfold left
  refine (rows_at _ _ _ _ _ _ _ _ _ r q).trans ?_
  simp only [blk_0 m hO, blk_1 m hO, blk_2 m hO 0 t e he, blk_3 m hO 0 t e he, blk_4 m hO 0 t e he, blk_5 m hO 0 t e' he', blk_6 m hO 0 t e' he', blk_7 m hO 0 t e' he']
  rw [e2, tbl_2]

/-- The points' blocks cover the result array. -/
theorem covers : ((cfgM m hO).win 8).Covers := by
  refine ⟨fun a => match a with | ⟨0, _⟩ => (by show 0 < 256; omega) | ⟨1, _⟩ => (by show 0 < 2048; omega), fun β => ?_⟩
  have h0 : (β (0 : Fin 2)).val < 88 := lt_of_lt_of_eq (β (0 : Fin 2)).isLt (show (22528 + 256 - 1) / 256 = 88 by norm_num)
  have h1 : (β (1 : Fin 2)).val < 1 := lt_of_lt_of_eq (β (1 : Fin 2)).isLt (show (2048 + 2048 - 1) / 2048 = 1 by norm_num)
  refine ⟨⟨(β (0 : Fin 2)).val, h0⟩, flush_8 m hO _, fun a => ⟨?_, .inl rfl⟩⟩
  rw [idx_8 m hO]
  match a with
  | ⟨0, _⟩ => rfl
  | ⟨1, _⟩ => exact (Nat.lt_one_iff.mp h1).symm

/-- The result array after the run. -/
theorem final (hlo : ∀ i, (word (F := Ideal) (tbl m 0) i).toNat < 16) (hhi : ∀ i, (word (F := Ideal) (tbl m 1) i).toNat < 16)
    (c : Dev nD) : (dats m hO 0 c).arrAt 8 (cfgM m hO).N = wanted m c := by
  refine (dats m hO 0 c).arrAt_eq_of_covers 8 _ (covers m hO) fun t _ y => ?_
  blk_simp
  rw [after_8]
  have hy : ((((cfgM m hO).win 8).blk t).view.emb y : S22528x2048.Idx) = ix2 (rowOf t (y (0 : Fin 2))) (y (1 : Fin 2)) := by
    blk_ext [idx_8 m hO t]
  have hy' : (y : S256x2048.Idx) = ix2 (y (0 : Fin 2)) (y (1 : Fin 2)) := by
    blk_ext [idx_8 m hO t]
  refine (congrArg (left m hO c t) hy').trans ((point m hO hlo hhi c t _ _).trans (congrArg (wanted m c) hy.symm))

/-- The kernel's run on tables that name blocks, its result the reference's term of the arguments. -/
theorem run_value [Cert.Pre_blocks_named.Facts] (h : Named m) (ρ : Dev nD → PrngReg) :
    θ_run defs (onTc (τ := τ) (main (F := Ideal))) ⟨m, fun _ => 0, ρ⟩ fun r => ∀ c : Dev nD,
      r.2.mem ((c : Thread nD τ).loc main_v3) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ hr c => ⟨((hr.1 c).1).trans (final m (ok_of_named m h) (lo_lt m h) (hi_lt m h) c), (hr.1 c).2⟩)
    (run_args m ρ (ok_of_named m h) (marked_of_named m h))

end Cert.FfnIdeal.Blocks

end
-- ==== Proof.FfnBits.lean ====
/- The experts' program at its machine floats: it is text for text the idealized one, so that program's run at bits is its run. -/
module

public import proofs.«01_k».proof.Defs
public import proofs.«01_k».proof.Proof.Gen.Ffn
public import proofs.«01_k».proof.Proof.Gen.FfnIdeal
public import proofs.«01_k».proof.Proof.FfnFrame
public import proofs.«01_k».proof.Proof.FfnPre

@[expose] public section

namespace Cert.Proof

open Idealize.ShloMosaic Idealize.SL.Sem

set_option maxHeartbeats 400000
/-- The two programs have one body table, -/
theorem defs0_same : Cert.Ffn.defs₀ (F := Bits) = Cert.FfnIdeal.defs₀ (F := Bits) := by
  unfold Cert.Ffn.defs₀ Cert.FfnIdeal.defs₀
  refine congrArg Defs.onTc ?_
  funext l x
  match l, x with
  | ⟨0, _⟩, (t, s) => exact rfl
/-- and with the pipeline around it one table of definitions. -/
theorem defs_same : Cert.Ffn.defs (F := Bits) = Cert.FfnIdeal.defs (F := Bits) :=
  congrArg (Pipeline.defs (Cert.FfnIdeal.pcfgs (F := Bits))) defs0_same

/-- What the precondition's own operations take. -/
theorem blocks_named_facts : Cert.Pre_blocks_named.Facts := ⟨by decide⟩
/-- The experts' call runs to the end and keeps its arguments, its tables naming blocks. -/
theorem frame_ffn : Cert.quiescent_Ffn (hPre_blocks_named := blocks_named_facts) := by
  letI := blocks_named_facts
  intro m ρ h
  rw [defs_same]
  refine (θ_run Cert.FfnIdeal.defs (onTc (τ := Cert.FfnIdeal.τ) (Cert.FfnIdeal.main (F := Bits))) _).mono ?_
    (Cert.FfnIdeal.Blocks.run_args (F := Bits) m ρ (Cert.FfnIdeal.Blocks.ok_of_named m h) (Cert.FfnIdeal.Blocks.marked_of_named m h))
  exact fun _ hr => ⟨fun c => (hr.1 c).2, hr.2⟩

end Cert.Proof
-- ==== Proof.CombineRun.lean ====
/- The last call: one grid point. The kernel copies 256 rows of the experts' output into its own buffer, one copy a row,
   each row named by a table, all of them on one semaphore; it waits for as many, and then adds the rows to the block of
   the residual stream and normalises. -/
module

public import proofs.«01_k».proof.Proof.Gen.CombineIdeal
public import proofs.«01_k».proof.Proof.Gen.CombineIdeal.Launch
public import proofs.«01_k».proof.Proof.Gen.CombineIdeal.Loops
public import proofs.«01_k».proof.Proof.Gen.CombineIdeal.Skeleton
public import Idealize.ShloMosaic.Lib.Batch
public import Idealize.ShloMosaic.Lib.Ring
public import Idealize.ShloMosaic.Lib.Exec
public import Idealize.ShloMosaic.Lib.Tactic
public import Idealize.ShloMosaic.Lib.VecWindow
public import Idealize.ShloMosaic.Lib.Pipeline.FrameBody
public import Idealize.ShloMosaic.Lib.Pipeline.ValueKit
public import Idealize.ShloMosaic.Lib.Pipeline.Kit
public import Idealize.ShloMosaic.Lib.Pipeline.Frame

@[expose] public section

set_option maxRecDepth 16384

noncomputable section

namespace Cert.CombineIdeal.Gather

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers and the rows -/

/-- The table of row numbers, the experts' rows, the buffer the rows are copied into, the semaphore of the copies. -/
abbrev tblM : Memref sig .tc .smem S16384 .i32 := Memref.whole main_arg0
abbrev ysM : Memref sig .tc .hbm S22528x2048 .f32 := Memref.whole main_arg4
abbrev bufM : Memref sig .tc .vmem S256x2048 .f32 := Memref.whole cc0_scratch0
abbrev semC : SemLoc sig := .dma cc0_scratch1.sem

abbrev Tbl (c : Dev nD) : Type := Buf (Elt F) (tblM.view.loc (c : Thread nD τ))
abbrev Ys (c : Dev nD) : Type := Buf (Elt F) (ysM.view.loc (c : Thread nD τ))
abbrev Rows (c : Dev nD) : Type := Buf (Elt F) (bufM.view.loc (c : Thread nD τ))

theorem buf_inb (n : Fin 256) : ∀ a, (![n.val, 0] : Fin 2 → Nat) a + S1x2048.size a ≤ S256x2048.size a := by
  have := n.isLt
  intro a; fin_cases a
  · show n.val + 1 ≤ 256; omega
  · show 0 + 2048 ≤ 2048; omega
theorem ys_inb (r : Fin 22528) : ∀ a, (![r.val, 0] : Fin 2 → Nat) a + S1x2048.size a ≤ S22528x2048.size a := by
  have := r.isLt
  intro a; fin_cases a
  · show r.val + 1 ≤ 22528; omega
  · show 0 + 2048 ≤ 2048; omega

/-- Row `n` of the buffer and row `r` of the experts' output, as the copies address them. -/
def bufRow (n : Fin 256) : Memref sig .tc .vmem S1x2048 .f32 := bufM.slice (Rect.unit (s := S256x2048) ![n.val, 0] S1x2048.size (buf_inb n)) (fun _ => rfl)
def ysRow (r : Fin 22528) : Memref sig .tc .hbm S1x2048 .f32 := ysM.slice (Rect.unit (s := S22528x2048) ![r.val, 0] S1x2048.size (ys_inb r)) (fun _ => rfl)

/-- Their elements. -/
def bufSet (n : Fin 256) : Finset S256x2048.Idx := (Rect.unit (s := S256x2048) ![n.val, 0] S1x2048.size (buf_inb n)).set
def ysSet (r : Fin 22528) : Finset S22528x2048.Idx := (Rect.unit (s := S22528x2048) ![r.val, 0] S1x2048.size (ys_inb r)).set

theorem bufSet_eq (n : Fin 256) : (bufRow n).view.set = bufSet n := by unfold bufRow bufSet; exact View.set_slice_whole _ _
theorem ysSet_eq (r : Fin 22528) : (ysRow r).view.set = ysSet r := by unfold ysRow ysSet; exact View.set_slice_whole _ _

theorem mem_bufSet (n : Fin 256) (y : S256x2048.Idx) : y ∈ bufSet n ↔ (y 0).val = n.val := by
  unfold bufSet
  rw [Rect.mem_set_unit]
  have h1 : (y 1).val < 2048 := (y 1).isLt
  constructor
  · intro H; have a0 : n.val ≤ (y 0).val ∧ (y 0).val < n.val + 1 := H 0; omega
  · intro H a; fin_cases a
    · show n.val ≤ (y 0).val ∧ (y 0).val < n.val + 1; omega
    · show 0 ≤ (y 1).val ∧ (y 1).val < 0 + 2048; omega

/-- The table's place for row `n` of grid point `i`. -/
def slot (i : grid0.Coords) (n : Fin 256) : S16384.Idx := fun
  | 0 => ⟨256 * (i 0).val + n.val, by have h : (i 0).val < 64 := (i 0).isLt; have := n.isLt; show _ < 16384; omega⟩

/-- Every row number lies inside the experts' output. -/
def Inside {c : Dev nD} (T : Tbl (F := F) c) : Prop := ∀ y : S16384.Idx, (T y : BitVec 32).toNat < 22528

/-- The row that row `n` of grid point `i` is copied from. -/
def from' {c : Dev nD} (T : Tbl (F := F) c) (hT : Inside T) (i : grid0.Coords) (n : Fin 256) : Fin 22528 := ⟨(T (slot i n) : BitVec 32).toNat, hT _⟩

/-- The buffer once every row has landed. -/
def gathered {c : Dev nD} (T : Tbl (F := F) c) (hT : Inside T) (i : grid0.Coords) (Y : Ys (F := F) c) : Rows (F := F) c :=
  fun (y : S256x2048.Idx) => (Y (fun | 0 => from' T hT i (y 0) | 1 => y 1 : S22528x2048.Idx) : F .f32)

/-- One row's credit. -/
abbrev NN : ℕ := bufM.view.ref.dmaCredit S1x2048 .f32

/-- Row `n` of the buffer, row `r` of the experts' output written into it. -/
theorem row_write {c : Dev nD} (n : Fin 256) (r : Fin 22528) (f0 : Rows (F := F) c) (Y : Ys (F := F) c) (y : S256x2048.Idx) (hy : (y 0 : Fin 256) = n) :
    (bufRow n).view.write (Elt F) f0 (ReadAs.same.apply ((ysRow r).view.read (Elt F) Y)) Finset.univ y = (Y (fun | 0 => r | 1 => y 1 : S22528x2048.Idx) : F .f32) := by
  let x : S1x2048.Idx := fun | 0 => (0 : Fin 1) | 1 => (y 1 : Fin 2048)
  have e : y = (bufRow n).view.emb x := by
    funext a
    fin_cases a
    · exact Fin.ext (congrArg Fin.val hy)
    · refine Fin.ext ?_
      show (y 1).val = 0 + 1 * (y 1).val
      omega
  refine (congrArg ((bufRow n).view.write (Elt F) f0 (ReadAs.same.apply ((ysRow r).view.read (Elt F) Y)) Finset.univ) e).trans ?_
  refine (View.write_emb_of_mem (v := (bufRow n).view) (x := x) f0 (ReadAs.same.apply ((ysRow r).view.read (Elt F) Y)) (M := Finset.univ) (Finset.mem_univ _)).trans ?_
  refine congrArg Y ?_
  funext a
  fin_cases a
  · refine Fin.ext ?_
    show r.val + 1 * 0 = r.val
    omega
  · refine Fin.ext ?_
    show 0 + 1 * (y 1).val = (y 1).val
    omega

/-! ## The copies in flight -/

section Copies

variable (c : Dev nD) (i : grid0.Coords) (T : Tbl (F := F) c) (hT : Inside T) (Y : Ys (F := F) c) (f0 : Rows (F := F) c)

/-- Row `n` of the buffer at contents `f`; the experts' output under read token `n`: all of it, its row, the rest. -/
abbrev rowAt (f : Rows (F := F) c) (n : Fin 256) : sProp 𝕄 := bufM.view.loc (c : Thread nD τ) ↦[bufSet n]{fullShare} f
abbrev tokAt (n : Fin 256) : sProp 𝕄 := ysM.view.loc (c : Thread nD τ) ↦{Transfers.shareTokN fullShare n.val} Y
abbrev pieceAt (n : Fin 256) : sProp 𝕄 := ysM.view.loc (c : Thread nD τ) ↦[ysSet (from' T hT i n)]{Transfers.shareTokN fullShare n.val} Y
abbrev restAt (n : Fin 256) : sProp 𝕄 := ysM.view.loc (c : Thread nD τ) ↦[Finset.univ \ ysSet (from' T hT i n)]{Transfers.shareTokN fullShare n.val} Y

/-- What copy `n` delivers: its row of the buffer filled, and the row it read back. -/
abbrev landed (n : Fin 256) : sProp 𝕄 := iprop(rowAt c (gathered T hT i Y) n ∗ pieceAt c i T hT Y n)

abbrev batch (k u : ℕ) : sProp 𝕄 := Transfers.Batch (countersEmb (U := Pipeline.UD sig nD τ)) (c : Thread nD τ) semC () NN (landed c i T hT Y) k u

/-- `k` copies issued, none waited for. -/
def issued (k : ℕ) : sProp 𝕄 :=
  iprop(batch c i T hT Y k 0 ∗ bigSep (Ring.rangeSet 256 k 256) (rowAt c f0) ∗ bigSep (Ring.rangeSet 256 k 256) (tokAt c Y)
    ∗ bigSep (Ring.rangeSet 256 0 k) (restAt c i T hT Y))

theorem tok_split (n : Fin 256) : tokAt c Y n ⊣⊢ iprop(pieceAt c i T hT Y n ∗ restAt c i T hT Y n) := by
  have h := pointsTo_union (ℓ := ysM.view.loc (c : Thread nD τ)) (q := Transfers.shareTokN fullShare n.val) (f := Y) (Finset.disjoint_sdiff (s := ysSet (from' T hT i n)) (t := Finset.univ)) (Ix := Unit) (Name := ℕ) (U := Pipeline.UD sig nD τ) (Lvl := ℕ)
  rw [Finset.union_sdiff_of_subset (Finset.subset_univ _)] at h
  exact h

/-- A copied row is the row of the buffer that the table names. -/
theorem row_lands (n : Fin 256) :
    (bufM.view.loc (c : Thread nD τ) ↦[bufSet n]{fullShare} ((bufRow n).view.write (Elt F) f0 (ReadAs.same.apply ((ysRow (from' T hT i n)).view.read (Elt F) Y)) Finset.univ) : sProp 𝕄)
      = rowAt c (gathered T hT i Y) n := by
  refine pointsTo_congr fun y hy => ?_
  have hy0 : ((y : S256x2048.Idx) 0 : Fin 256) = n := Fin.ext ((mem_bufSet n y).mp hy)
  refine (row_write n (from' T hT i n) f0 Y y hy0).trans ?_
  show Y _ = Y _
  rw [← hy0]

theorem issue {n : ℕ} {o2 o3 : Fin 2 → ℕ} {h2 : ∀ a, o2 a + S1x2048.size a ≤ S256x2048.size a} {h3 : ∀ a, o3 a + S1x2048.size a ≤ S22528x2048.size a}
    {α : Type} {K : PUnit → Prog (TpuEff nD τ sig (Elt F) Λ₀ .tc) α} {Q : α → sProp 𝕄} :
    issued c i T hT Y f0 n ⊢ iprop(⌜∃ hn : n < 256, o2 = ![n, 0] ∧ o3 = ![(T (slot i ⟨n, hn⟩) : BitVec 32).toNat, 0]⌝
      -∗ (issued c i T hT Y f0 (n + 1) -∗ wp frame (wpE (defs₀ (F := F)) Variants.none (c : Thread nD τ) none) Set.univ (K ⟨⟩) Q)
      -∗ wp frame (wpE (defs₀ (F := F)) Variants.none (c : Thread nD τ) none) Set.univ
        (.op (.enqueueDma (ysM.slice (Rect.unit (s := S22528x2048) o3 S1x2048.size h3) (fun _ => rfl)) (.here (bufM.slice (Rect.unit (s := S256x2048) o2 S1x2048.size h2) (fun _ => rfl))) semC
          (View.wordExact_bits rfl) (View.wordExact_bits rfl) ⟨Or.inl rfl, trivial⟩) K) Q) := by
  iintro HI %he
  obtain ⟨hn, e2, e3⟩ := he
  subst e2 e3
  istop
  unfold issued
  rw [Ring.bigSep_rangeSet_head (Φ := rowAt c f0) hn hn, Ring.bigSep_rangeSet_head (Φ := tokAt c Y) hn hn,
    Ring.bigSep_rangeSet_last (Φ := restAt c i T hT Y) (lo := 0) (hi := n + 1) (by omega) (by omega)]
  iintro ⟨HB, ⟨Hd, Hds⟩, ⟨Ht, Hts⟩, Hrs⟩ Hk
  ihave Ht' := (tok_split c i T hT Y ⟨n, hn⟩).1 $$ Ht
  icases Ht' with ⟨Hp, Hr⟩
  iapply (Transfers.wp_dmaBatch (countersEmb (U := Pipeline.UD sig nD τ)) Variants.none (c : Thread nD τ) none (src := ysRow (from' T hT i ⟨n, hn⟩)) (dst := bufRow ⟨n, hn⟩) (sm := semC)
    (Sd := bufSet ⟨n, hn⟩) (fs := Y) (fd := f0) (q := Transfers.shareTokN fullShare n) () NN rfl (bufSet_eq _).subset
    (D := landed c i T hT Y) (j := n) (u := 0) hn (Nat.zero_le _) (by rw [ysSet_eq]; exact Entails.of_eq (congrArg (fun X => iprop(X ∗ _)) (row_lands c i T hT Y f0 ⟨n, hn⟩)))) $$ [Hp Hd HB]
  · isplitl [Hp]; · rw [ysSet_eq]; iexact Hp
    isplitl [Hd]; · iexact Hd
    iexact HB
  iintro HB
  iapply Hk
  isplitl [HB]; · iexact HB
  isplitl [Hds]; · iexact Hds
  isplitl [Hts]; · iexact Hts
  isplitl [Hr]; · iexact Hr
  iexact Hrs

/-- The word the body reads for copy `n`. -/
theorem read_slot (o : Fin 1 → ℕ) (n : ℕ) (hn : n < 256) (e : o = ![256 * (i 0).val + n]) (h : ∀ a, o a + S1.size a ≤ S16384.size a)
    (h' : 0 < (Rect.unit (s := S16384) o S1.size h).toLoadRect.shape.numel) :
    View.readAt (Elt F) tblM.view (Rect.unit (s := S16384) o S1.size h).toLoadRect T (Shape.Idx.first h') = T (slot i ⟨n, hn⟩) := by
  subst e
  refine congrArg T ?_
  funext (a : Fin 1)
  obtain rfl : a = 0 := Subsingleton.elim _ _
  exact Fin.ext (Nat.add_zero _)

/-- A row number inside the experts' output passes the body's check. -/
theorem check (v : BitVec 32) (hv : v.toNat < 22528) : k0_chk1 v := by
  intro a; fin_cases a
  · show v.toNat + 1 ≤ 22528; omega
  · show 0 + 2048 ≤ 2048; omega

/-- So does every word read from the table. -/
theorem check_read {c : Dev nD} {T : Tbl (F := F) c} (hT : Inside T) (o : Fin 1 → ℕ) (h : ∀ a, o a + S1.size a ≤ S16384.size a)
    (h' : 0 < (Rect.unit (s := S16384) o S1.size h).toLoadRect.shape.numel) :
    k0_chk1 (View.readAt (Elt F) tblM.view (Rect.unit (s := S16384) o S1.size h).toLoadRect T (Shape.Idx.first h')) := check _ (hT _)

/-- The place in the experts' output that a copy starts from. -/
theorem row_off {v w : BitVec 32} (h : v = w) : k0_off3 v = ![w.toNat, 0] := congrArg (fun u : BitVec 32 => (![u.toNat, 0] : Fin 2 → ℕ)) h

abbrev table (c : Dev nD) (T : Tbl (F := F) c) : sProp 𝕄 := tblM.view.loc (c : Thread nD τ) ↦{fullShare.right} T

set_option maxHeartbeats 1000000 in
theorem issue_trip (a2 : Memref sig .tc .vmem S256x2048 .f32) (ha2 : a2.IsWhole) (a3 : Memref sig .tc .vmem S1x2048 .f32) (ha3 : a3.IsWhole)
    (a4 : Memref sig .tc .vmem S1x2048 .f32) (ha4 : a4.IsWhole) (a6 : Memref sig .tc .vmem S256x2048 .f32) (ha6 : a6.IsWhole) (v0 : BitVec 32)
    (k : Fin k0_t1_loop.trips) (acc : Unit) :
    iprop(issued c i T hT Y f0 (8 * k.val) ∗ table c T) ⊢ wp frame (wpE (defs₀ (F := F)) Variants.none (c : Thread nD τ) none) Set.univ
      (k0_t1_body i tblM (Memref.isWhole_whole _) a2 ha2 a3 ha3 a4 ha4 ysM (Memref.isWhole_whole _) a6 ha6 bufM (Memref.isWhole_whole _) cc0_scratch1 v0 k acc)
      (fun _ => iprop(issued c i T hT Y f0 (8 * (k.val + 1)) ∗ table c T)) := by
  have hk : k.val < 32 := k.isLt
  unfold k0_t1_body
  simp only [k0_part1_eq_skeleton]
  unfold k0_part1_skel
  iintro ⟨HI, HT⟩
  sl_exec (disch := exact check_read hT _ _ _)
  iapply (issue c i T hT Y f0) $$ HI
  · ipureintro
    exact ⟨by omega, (k0_off2_eq k).trans (congrArg (fun x => ![x, 0]) (by omega)), row_off (read_slot c i T _ _ _ ((k0_off1_eq i k).trans (congrArg (fun x => ![x]) (by omega))) _ _)⟩
  iintro HI
  sl_exec (disch := exact check_read hT _ _ _)
  iapply (issue c i T hT Y f0) $$ HI
  · ipureintro
    exact ⟨by omega, (k0_off5_eq k).trans (congrArg (fun x => ![x, 0]) (by omega)), row_off (read_slot c i T _ _ _ ((k0_off4_eq i k).trans (congrArg (fun x => ![x]) (by omega))) _ _)⟩
  iintro HI
  sl_exec (disch := exact check_read hT _ _ _)
  iapply (issue c i T hT Y f0) $$ HI
  · ipureintro
    exact ⟨by omega, (k0_off8_eq k).trans (congrArg (fun x => ![x, 0]) (by omega)), row_off (read_slot c i T _ _ _ ((k0_off7_eq i k).trans (congrArg (fun x => ![x]) (by omega))) _ _)⟩
  iintro HI
  sl_exec (disch := exact check_read hT _ _ _)
  iapply (issue c i T hT Y f0) $$ HI
  · ipureintro
    exact ⟨by omega, (k0_off11_eq k).trans (congrArg (fun x => ![x, 0]) (by omega)), row_off (read_slot c i T _ _ _ ((k0_off10_eq i k).trans (congrArg (fun x => ![x]) (by omega))) _ _)⟩
  iintro HI
  sl_exec (disch := exact check_read hT _ _ _)
  iapply (issue c i T hT Y f0) $$ HI
  · ipureintro
    exact ⟨by omega, (k0_off14_eq k).trans (congrArg (fun x => ![x, 0]) (by omega)), row_off (read_slot c i T _ _ _ ((k0_off13_eq i k).trans (congrArg (fun x => ![x]) (by omega))) _ _)⟩
  iintro HI
  sl_exec (disch := exact check_read hT _ _ _)
  iapply (issue c i T hT Y f0) $$ HI
  · ipureintro
    exact ⟨by omega, (k0_off17_eq k).trans (congrArg (fun x => ![x, 0]) (by omega)), row_off (read_slot c i T _ _ _ ((k0_off16_eq i k).trans (congrArg (fun x => ![x]) (by omega))) _ _)⟩
  iintro HI
  sl_exec (disch := exact check_read hT _ _ _)
  iapply (issue c i T hT Y f0) $$ HI
  · ipureintro
    exact ⟨by omega, (k0_off20_eq k).trans (congrArg (fun x => ![x, 0]) (by omega)), row_off (read_slot c i T _ _ _ ((k0_off19_eq i k).trans (congrArg (fun x => ![x]) (by omega))) _ _)⟩
  iintro HI
  sl_exec (disch := exact check_read hT _ _ _)
  iapply (issue c i T hT Y f0) $$ HI
  · ipureintro
    exact ⟨by omega, (k0_off23_eq k).trans (congrArg (fun x => ![x, 0]) (by omega)), row_off (read_slot c i T _ _ _ ((k0_off22_eq i k).trans (congrArg (fun x => ![x]) (by omega))) _ _)⟩
  iintro HI
  sl_exec (disch := exact check_read hT _ _ _)
  sl_step
  isplitl [HI]; · iexact HI
  iexact HT

theorem ret_bind' {E : Type → Type} {α β : Type} (a : α) (k : α → Prog E β) : (Prog.ret a).bind k = k a := rfl

/-- All copies issued, `u` of them waited for. -/
def waited (u : ℕ) : sProp 𝕄 := iprop(batch c i T hT Y 256 (u * NN) ∗ ∃ W, owes (c : Thread nD τ) 0 W)

/-- One wait. -/
theorem drain {u : ℕ} {o2 o3 : Fin 2 → ℕ} {h2 : ∀ a, o2 a + S1x2048.size a ≤ S256x2048.size a} {h3 : ∀ a, o3 a + S1x2048.size a ≤ S22528x2048.size a}
    {α : Type} {K : PUnit → Prog (TpuEff nD τ sig (Elt F) Λ₀ .tc) α} {Q : α → sProp 𝕄} :
    waited c i T hT Y u ⊢ iprop(⌜u < 256⌝
      -∗ (waited c i T hT Y (u + 1) -∗ wp frame (wpE (defs₀ (F := F)) Variants.none (c : Thread nD τ) none) Set.univ (K ⟨⟩) Q)
      -∗ wp frame (wpE (defs₀ (F := F)) Variants.none (c : Thread nD τ) none) Set.univ
        (.op (.waitDma2 cc0_scratch1.sem (ysM.slice (Rect.unit (s := S22528x2048) o3 S1x2048.size h3) (fun _ => rfl)) (bufM.slice (Rect.unit (s := S256x2048) o2 S1x2048.size h2) (fun _ => rfl))
          (View.wordExact_bits rfl) (View.wordExact_bits rfl)) K) Q) := by
  unfold waited
  iintro ⟨HB, %W, HO⟩ %hu Hk
  iapply (Transfers.wp_waitBatchMul (countersEmb (U := Pipeline.UD sig nD τ)) Variants.none (c : Thread nD τ) none () (N := NN) 1 (one_mul _).symm (j := 256) (u := u * NN)
    (by rw [← Nat.add_mul, Nat.mul_comm]; exact Nat.mul_le_mul_left _ hu)) $$ [HB HO]
  · isplitl [HB]; · iexact HB
    iexact HO
  iintro ⟨HB, HO⟩
  iapply Hk
  rw [Nat.add_mul]
  isplitl [HB]; · iexact HB
  iexists _; iexact HO

set_option maxHeartbeats 1000000 in
/-- Eight waits. -/
theorem drain_trip (a2 : Memref sig .tc .vmem S256x2048 .f32) (ha2 : a2.IsWhole) (a3 : Memref sig .tc .vmem S1x2048 .f32) (ha3 : a3.IsWhole)
    (a4 : Memref sig .tc .vmem S1x2048 .f32) (ha4 : a4.IsWhole) (a6 : Memref sig .tc .vmem S256x2048 .f32) (ha6 : a6.IsWhole)
    (k : Fin k0_t2_loop.trips) (acc : Unit) :
    waited c i T hT Y (8 * k.val) ⊢ wp frame (wpE (defs₀ (F := F)) Variants.none (c : Thread nD τ) none) Set.univ
      (k0_t2_body i tblM (Memref.isWhole_whole _) a2 ha2 a3 ha3 a4 ha4 ysM (Memref.isWhole_whole _) a6 ha6 bufM (Memref.isWhole_whole _) cc0_scratch1 k acc)
      (fun _ => waited c i T hT Y (8 * (k.val + 1))) := by
  have hk : k.val < 32 := k.isLt
  unfold k0_t2_body
  simp only [k0_part2_eq_skeleton]
  unfold k0_part2_skel
  iintro HI
  sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  try sl_exec
  iapply (drain c i T hT Y) $$ HI
  · ipureintro; omega
  iintro HI
  simp only [ret_bind']
  sl_step
  iexact HI

/-! ## The whole point -/

/-- The buffer is its rows. -/
theorem rows_apart (f : Rows (F := F) c) :
    (bufM.view.loc (c : Thread nD τ) ↦{fullShare} f : sProp 𝕄) = bigSep Finset.univ (rowAt c f) :=
  Ring.pointsTo_blocks (ℓ := bufM.view.loc (c : Thread nD τ)) (fun b : Fin 256 => (bufSet b : Finset (Idx (bufM.view.loc (c : Thread nD τ)))))
    (fun b b' hne => by
      rw [Finset.disjoint_left]; intro y hy hy'
      exact hne (Fin.ext (((mem_bufSet b y).mp hy).symm.trans ((mem_bufSet b' y).mp hy'))))
    (by ext y; simp only [Finset.mem_biUnion, Finset.mem_univ, true_and, iff_true]; exact ⟨(y : S256x2048.Idx) 0, (mem_bufSet _ _).mpr rfl⟩) f

/-- The experts' output is its read tokens and what is left of it. -/
theorem toks_apart : (ysM.view.loc (c : Thread nD τ) ↦{fullShare} Y : sProp 𝕄)
    ⊣⊢ iprop((ysM.view.loc (c : Thread nD τ) ↦{Transfers.shareDrop fullShare 256} Y) ∗ bigSep Finset.univ (tokAt c Y)) := by
  rw [← Ring.rangeSet_univ (NB := 256), Ring.bigSep_rangeSet_eq_range (Φ := tokAt c Y) (lo := 0) (hi := 256) (le_refl _)
    (fun n => (ysM.view.loc (c : Thread nD τ) ↦{Transfers.shareTokN fullShare n} Y : sProp 𝕄))
    (fun k h => by show _ = (ysM.view.loc (c : Thread nD τ) ↦{Transfers.shareTokN fullShare (0 + k)} Y : sProp 𝕄); rw [Nat.zero_add])]
  exact Transfers.pointsTo_toks_range fullShare 256

/-- No copy issued yet. -/
theorem issued_start : iprop(batch c i T hT Y 0 0 ∗ (bufM.view.loc (c : Thread nD τ) ↦{fullShare} f0) ∗ bigSep Finset.univ (tokAt c Y))
    ⊢ issued c i T hT Y f0 0 := by
  unfold issued
  rw [Ring.rangeSet_univ, Ring.bigSep_rangeSet_empty (le_refl 0), rows_apart]
  iintro ⟨HB, Hr, Ht⟩
  isplitl [HB]; · iexact HB
  isplitl [Hr]; · iexact Hr
  isplitl [Ht]; · iexact Ht
  iempintro

/-- All copies issued. -/
theorem issued_done : iprop(issued c i T hT Y f0 256 ∗ ∃ W, owes (c : Thread nD τ) 0 W) ⊢ iprop(waited c i T hT Y 0 ∗ bigSep Finset.univ (restAt c i T hT Y)) := by
  unfold issued waited
  rw [Ring.rangeSet_univ, Ring.bigSep_rangeSet_empty (le_refl 256), Ring.bigSep_rangeSet_empty (le_refl 256), Nat.zero_mul]
  iintro ⟨⟨HB, -, -, Hr⟩, HO⟩
  isplitl [HB HO]
  · isplitl [HB]; · iexact HB
    iexact HO
  iexact Hr

theorem NN_pos : 0 < NN := by decide

/-- All copies waited for. -/
theorem waited_done : waited c i T hT Y 256
    ⊢ (|={Set.univ}=> iprop((bigSep Finset.univ (landed c i T hT Y) ∗ semVal ((c : Thread nD τ), semC) 0) ∗ ∃ W, owes (c : Thread nD τ) 0 W) : sProp 𝕄) := by
  unfold waited
  rw [Nat.mul_comm 256]
  iintro ⟨HB, HO⟩
  imod (Transfers.batch_collect' (countersEmb (U := Pipeline.UD sig nD τ)) (c : Thread nD τ) NN_pos) $$ HB with HB
  imodintro
  isplitl [HB]; · iexact HB
  iexact HO

/-- What the copies deliver and what they left make the buffer, filled, and the experts' output's tokens again. -/
theorem joined : iprop(bigSep Finset.univ (landed c i T hT Y) ∗ bigSep Finset.univ (restAt c i T hT Y))
    ⊢ iprop((bufM.view.loc (c : Thread nD τ) ↦{fullShare} gathered T hT i Y) ∗ bigSep Finset.univ (tokAt c Y)) := by
  rw [rows_apart, show bigSep Finset.univ (landed c i T hT Y) = iprop(bigSep Finset.univ (rowAt c (gathered T hT i Y)) ∗ bigSep Finset.univ (pieceAt c i T hT Y)) from bigSep_sep' _ _ _]
  iintro ⟨⟨Hb, Hp⟩, Hr⟩
  isplitl [Hb]; · iexact Hb
  iapply (show iprop(bigSep Finset.univ (pieceAt c i T hT Y) ∗ bigSep Finset.univ (restAt c i T hT Y)) ⊢ bigSep Finset.univ (tokAt c Y) from by
    rw [← bigSep_sep']; exact bigSep_mono (fun n _ => (tok_split c i T hT Y n).2))
  isplitl [Hp]; · iexact Hp
  iexact Hr

/-- What a grid point writes: the block of the stream plus the gate times the rows, normalised. -/
def combined (x : Vec F S256x2048 .f32) (gate fg : Vec F S1x2048 .f32) (r : Vec F S256x2048 .f32) : Vec F S256x2048 .f32 := k0_pay1 x gate r fg

set_option maxHeartbeats 1000000 in
/-- A grid point. -/
theorem run_point (a2 : Memref sig .tc .vmem S256x2048 .f32) (ha2 : a2.IsWhole) (a3 : Memref sig .tc .vmem S1x2048 .f32) (ha3 : a3.IsWhole)
    (a4 : Memref sig .tc .vmem S1x2048 .f32) (ha4 : a4.IsWhole) (a6 : Memref sig .tc .vmem S256x2048 .f32) (ha6 : a6.IsWhole)
    (x : Vec F S256x2048 .f32) (gate fg : Vec F S1x2048 .f32) (K : PUnit → sProp 𝕄) :
    iprop(owns (c : Thread nD τ) a2 fullShare x ∗ owns (c : Thread nD τ) a3 fullShare gate ∗ owns (c : Thread nD τ) a4 fullShare fg
        ∗ (∃ d, owns (c : Thread nD τ) a6 fullShare d) ∗ (∃ f, bufM.view.loc (c : Thread nD τ) ↦{fullShare} f)
        ∗ (ysM.view.loc (c : Thread nD τ) ↦{fullShare} Y) ∗ semVal ((c : Thread nD τ), semC) 0 ∗ table c T ∗ (∃ W, owes (c : Thread nD τ) 0 W)
        ∗ (iprop(owns (c : Thread nD τ) a2 fullShare x ∗ owns (c : Thread nD τ) a3 fullShare gate ∗ owns (c : Thread nD τ) a4 fullShare fg
          ∗ owns (c : Thread nD τ) a6 fullShare (combined x gate fg (gathered T hT i Y)) ∗ (∃ f, bufM.view.loc (c : Thread nD τ) ↦{fullShare} f)
          ∗ (ysM.view.loc (c : Thread nD τ) ↦{fullShare} Y) ∗ semVal ((c : Thread nD τ), semC) 0 ∗ table c T ∗ (∃ W, owes (c : Thread nD τ) 0 W)) -∗ K ⟨⟩))
      ⊢ wp frame (wpE (defs₀ (F := F)) Variants.none (c : Thread nD τ) none) Set.univ
          (cc0_combine i tblM (Memref.isWhole_whole _) a2 ha2 a3 ha3 a4 ha4 ysM (Memref.isWhole_whole _) a6 ha6 bufM (Memref.isWhole_whole _) cc0_scratch1) K := by
  simp only [cc0_combine_eq_skeleton]; unfold cc0_combine_skel
  unfold owns
  iintro ⟨⟨%g2, %hg2, H2⟩, ⟨%g3, %hg3, H3⟩, ⟨%g4, %hg4, H4⟩, ⟨%d6, %g6, -, H6⟩, ⟨%f, Hb⟩, Hy, Hs, HT, HO, Hk⟩
  obtain rfl := ha2.eq_unread hg2; obtain rfl := ha3.eq_unread hg3; obtain rfl := ha4.eq_unread hg4
  imod (Transfers.batch_alloc' (Lvl := ℕ) (countersEmb (U := Pipeline.UD sig nD τ)) (c : Thread nD τ) () NN (landed c i T hT Y) (sm := semC) (E := Set.univ)) $$ Hs with HB
  ihave Hy' := (toks_apart c Y).1 $$ Hy
  icases Hy' with ⟨Hyd, Hyt⟩
  ihave HI := (issued_start c i T hT Y f) $$ [HB Hb Hyt]
  · isplitl [HB]; · iexact HB
    isplitl [Hb]; · iexact Hb
    iexact Hyt
  sl_exec
  sl_for (fun k _ => iprop(issued c i T hT Y f (8 * k) ∗ table c T)) $$ [HI HT]
  case region =>
    intro k acc
    exact issue_trip c i T hT Y f a2 ha2 a3 ha3 a4 ha4 a6 ha6 _ k acc
  · isplitl [HI]; · iexact HI
    iexact HT
  iintro %acc1 ⟨HI, HT⟩
  ihave HW := (issued_done c i T hT Y f) $$ [HI HO]
  · isplitl [HI]; · iexact HI
    iexact HO
  icases HW with ⟨HW, Hrest⟩
  sl_for (fun k _ => waited c i T hT Y (8 * k)) $$ [HW]
  case region =>
    intro k acc
    exact drain_trip c i T hT Y a2 ha2 a3 ha3 a4 ha4 a6 ha6 k acc
  · iexact HW
  iintro %acc2 HW
  ihave HE := (waited_done c i T hT Y) $$ [HW]
  · iexact HW
  imod HE with ⟨⟨HD, Hs⟩, HO⟩
  ihave HJ := (joined c i T hT Y) $$ [HD Hrest]
  · isplitl [HD]; · iexact HD
    iexact Hrest
  icases HJ with ⟨Hb, Hyt⟩
  ihave Hy := (toks_apart c Y).2 $$ [Hyd Hyt]
  · isplitl [Hyd]; · iexact Hyd
    iexact Hyt
  sl_exec
  sl_step
  iapply Hk
  isplitl [H2]
  · iexists _; isplitr; · ipureintro; exact hg2
    iexact H2
  isplitl [H3]
  · iexists _; isplitr; · ipureintro; exact hg3
    iexact H3
  isplitl [H4]
  · iexists _; isplitr; · ipureintro; exact hg4
    iexact H4
  isplitl [H6]
  · iexists _; isplitr
    swap; · iexact H6
    ipureintro
    refine (View.read_writes_full _ _ _ _ _).trans ?_
    unfold combined
    simp (disch := decide) only [View.readAt_eq_ld, View.ld_unit_lit', Memref.IsWhole.read_unread]
    rfl
  isplitl [Hb]; · iexists _; iexact Hb
  isplitl [Hy]; · iexact Hy
  isplitl [Hs]; · iexact Hs
  isplitl [HT]; · iexact HT
  iexact HO

end Copies

end Cert.CombineIdeal.Gather

end
-- ==== Proof.CombineFrame.lean ====
/- The last call: its launch. Every grid point reads its block of the residual stream, the gate and the scale whole, and
   the experts' rows its part of the table names; it writes its own block of the result. At the end the result array is
   what those blocks make up, the arguments are as they were and every semaphore is back at zero. -/
module

public import proofs.«01_k».proof.Proof.CombineRun

@[expose] public section

set_option maxRecDepth 16384

noncomputable section

namespace Cert.CombineIdeal.Gather

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the grid finds -/

/-- Core `c`'s arrays when the grid starts: the gate and the scale as rows, everything else as given. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
/-- The program up to the grid. -/
theorem entry : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub fresh main_chain

/-- An array that neither reshape writes is as given. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.reshape_writes, Finset.mem_singleton]
    exact ⟨StableHlo.devRef_ne_of_ne h0, StableHlo.devRef_ne_of_ne h1⟩))

/-- The table. -/
def tbl : pre0.Contents (Elt F) := fun j => V m (0 : Dev nD) (pre0.ref j)
theorem V_tbl (c : Dev nD) (j : Fin 1) : V m c (pre0.ref j) = tbl m j := by
  obtain rfl : c = 0 := Subsingleton.elim _ _; rfl

/-- No window's place hangs on the table. -/
theorem ok : ok0 (F := F) (tbl m) := trivial

/-- The table and the pipeline at it. -/
abbrev adm : (pcfg0 (F := F)).Adm := ⟨tbl m, ok m⟩
abbrev cfgM : Pipeline.Cfg sig Λ₀ := cfg0 (adm m)

/-- The table's words. -/
abbrev words (c : Dev nD) : Tbl (F := F) c := tbl m 0
/-- Every row number lies inside the experts' output. -/
abbrev Ok : Prop := Inside (F := F) (c := (0 : Dev nD)) (tbl m 0)

/-- The table's half that the grid lends the body. -/
theorem lent_eq (c : Dev nD) : (Pipeline.ΦT pre0 (tbl m) c : sProp 𝕄) = table c (tbl m 0) := by
  unfold Pipeline.ΦT Pipeline.prefHeld
  rw [show (Finset.univ : Finset (Fin 1)) = {(0 : Fin 1)} from by decide, bigSep_singleton]
  rfl

/-- The kernel's own semaphore, and the buffer it reads itself. -/
def osem : Unit → SemLoc sig := fun _ => semC
theorem osem_facts : Pipeline.OwnSemFacts spec0 osem := by decide
def H : Finset (Ref sig .tc) := {main_arg4}
theorem H_rest : H ⊆ Pipeline.restRefsP sig pre0 spec0 := by decide

/-- What the grid lends the body from point to point. -/
theorem held_eq (c : Dev nD) : (Pipeline.ΦD osem spec0 H (V m) c : sProp 𝕄)
    = iprop((∃ f, bufM.view.loc (c : Thread nD τ) ↦{fullShare} f) ∗ (∃ r, prngReg c r) ∗ semVal ((c : Thread nD τ), semC) 0
      ∗ (ysM.view.loc (c : Thread nD τ) ↦{fullShare} V m c main_arg4)) := by
  rw [Pipeline.ΦD_eq, scopedRest0_eq]
  unfold Pipeline.ownSems0 H osem
  rw [bigSep_singleton, show (Finset.univ : Finset Unit) = {()} from by decide, bigSep_singleton]

/-- Window `w`'s block at point `t`. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What point `t` leaves in the result's buffer. -/
def left (hO : Ok m) (c : Dev nD) (t : Fin (cfgM m).N) : Vec F S256x2048 .f32 :=
  combined (iblk m c 0 t) (iblk m c 1 t) (iblk m c 2 t) (gathered (c := c) (tbl m 0) hO (grid0.coords t) (V m c main_arg4))

/-! ## The proof data of the grid -/

/-- Inputs keep their blocks, the result's buffer ends at `left`, nothing is owed between points. -/
def dats (hO : Ok m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m hO c t
  Φ _ := iprop(Pipeline.ΦD osem spec0 H (V m) c ∗ Pipeline.ΦT pre0 (tbl m) c)
  q _ := fullShare
  owed _ := 0

theorem A_eq (hO : Ok m) (c : Dev nD) (w : Fin (cfgM m).W) : (dats m hO 0 c).A w = V m c (Pipeline.arrRef spec0 w) := by
  dsimp only [dats]

theorem after_0 (hO : Ok m) (c : Dev nD) (t : Fin (cfgM m).N) : (dats m hO 0 c).after 0 t = iblk m c 0 t := by dsimp only [dats]; try rfl
theorem after_1 (hO : Ok m) (c : Dev nD) (t : Fin (cfgM m).N) : (dats m hO 0 c).after 1 t = iblk m c 1 t := by dsimp only [dats]; try rfl
theorem after_2 (hO : Ok m) (c : Dev nD) (t : Fin (cfgM m).N) : (dats m hO 0 c).after 2 t = iblk m c 2 t := by dsimp only [dats]; try rfl
theorem after_3 (hO : Ok m) (c : Dev nD) (t : Fin (cfgM m).N) : (dats m hO 0 c).after 3 t = left m hO c t := by dsimp only [dats]; try rfl

/-- An input's buffer holds its block whether or not the block was fetched at this very point. -/
theorem before_0 (hO : Ok m) (c : Dev nD) (t : Fin (cfgM m).N) (d) : (dats m hO 0 c).before 0 t d = iblk m c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m).N) (d) : (dats m hO 0 c).before 1 t d = iblk m c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m).N) (d) : (dats m hO 0 c).before 2 t d = iblk m c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a grid point -/

/-- The body on the buffers of point `t`. -/
abbrev bodyAt (t : Fin (cfgM m).N) : Prog (TpuEff nD τ sig (Elt F) Λ₀ .tc) PUnit :=
  cc0_combine (grid0.coords t) tblM (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    ysM (Memref.isWhole_whole _)
    (spec0_3.stage ((cfgM m).slots t 3)) (hstage0_3 (((cfgM m).slots t 3).cast nbuf0_3))
    bufM (Memref.isWhole_whole _) cc0_scratch1

/-- What the body is handed at point `t`, and what it hands back. -/
def before (hO : Ok m) (c : Dev nD) (t : Fin (cfgM m).N) : sProp 𝕄 :=
  iprop((dats m hO 0 c).Φ t.castSucc ∗ (dats m hO 0 c).owesAt () t.castSucc
    ∗ (∃ d, owns (c : Thread nD τ) (spec0_0.stage ((cfgM m).slots t 0)) fullShare ((dats m hO 0 c).before 0 t d))
    ∗ (∃ d, owns (c : Thread nD τ) (spec0_1.stage ((cfgM m).slots t 1)) fullShare ((dats m hO 0 c).before 1 t d))
    ∗ (∃ d, owns (c : Thread nD τ) (spec0_2.stage ((cfgM m).slots t 2)) fullShare ((dats m hO 0 c).before 2 t d))
    ∗ (∃ d, owns (c : Thread nD τ) (spec0_3.stage ((cfgM m).slots t 3)) fullShare ((dats m hO 0 c).before 3 t d)))
def afterwards (hO : Ok m) (c : Dev nD) (t : Fin (cfgM m).N) : sProp 𝕄 :=
  iprop((dats m hO 0 c).Φ t.succ ∗ (dats m hO 0 c).owesAt () t.succ
    ∗ owns (c : Thread nD τ) (spec0_0.stage ((cfgM m).slots t 0)) fullShare ((dats m hO 0 c).after 0 t)
    ∗ owns (c : Thread nD τ) (spec0_1.stage ((cfgM m).slots t 1)) fullShare ((dats m hO 0 c).after 1 t)
    ∗ owns (c : Thread nD τ) (spec0_2.stage ((cfgM m).slots t 2)) fullShare ((dats m hO 0 c).after 2 t)
    ∗ owns (c : Thread nD τ) (spec0_3.stage ((cfgM m).slots t 3)) fullShare ((dats m hO 0 c).after 3 t))

/-- Between points the core owes nothing, whatever it has waited for. -/
theorem owes_eq (hO : Ok m) (c : Dev nD) (t) : ((dats m hO 0 c).owesAt () t : sProp 𝕄) ⊣⊢ iprop(∃ W, owes (c : Thread nD τ) 0 W) := by
  constructor
  · iintro ⟨%W, -, HO⟩; iexists W; iexact HO
  · iintro ⟨%W, HO⟩; iexists W
    isplitr; · ipureintro; exact fun _ _ => Or.inl trivial
    iexact HO

set_option maxHeartbeats 800000 in
/-- The body at a point: one application of the run. -/
theorem at_point (hO : Ok m) (c : Dev nD) (t : Fin (cfgM m).N) :
    before m hO c t ⊢ wp frame (wpE (defs₀ (F := F)) Variants.none (c : Thread nD τ) none) Set.univ (bodyAt m t) (fun _ => afterwards m hO c t) := by
  unfold before afterwards bodyAt
  simp only [before_0, before_1, before_2]
  rw [after_0, after_1, after_2, after_3]
  rw [show (dats m hO 0 c).Φ t.succ = iprop(Pipeline.ΦD osem spec0 H (V m) c ∗ Pipeline.ΦT pre0 (tbl m) c) from rfl,
    show (dats m hO 0 c).Φ t.castSucc = iprop(Pipeline.ΦD osem spec0 H (V m) c ∗ Pipeline.ΦT pre0 (tbl m) c) from rfl, lent_eq, held_eq]
  iintro ⟨⟨⟨Hb, Hr, Hs, Hy⟩, HT⟩, Ho, ⟨%d0, H0⟩, ⟨%d1, H1⟩, ⟨%d2, H2⟩, ⟨%d3, H3⟩⟩
  ihave HO := (owes_eq m hO c t.castSucc).1 $$ Ho
  iapply (run_point c (grid0.coords t) (tbl m 0) hO (V m c main_arg4) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hb]; · iexact Hb
  isplitl [Hy]; · iexact Hy
  isplitl [Hs]; · iexact Hs
  isplitl [HT]; · iexact HT
  isplitl [HO]; · iexact HO
  iintro ⟨H0, H1, H2, H3, Hb, Hy, Hs, HT, HO⟩
  ihave Ho := (owes_eq m hO c t.succ).2 $$ HO
  isplitl [Hb Hr Hs Hy HT]
  · isplitl [Hb Hr Hs Hy]
    · isplitl [Hb]; · iexact Hb
      isplitl [Hr]; · iexact Hr
      isplitl [Hs]; · iexact Hs
      iexact Hy
    iexact HT
  isplitl [Ho]; · iexact Ho
  isplitl [H0]; · iexact H0
  isplitl [H1]; · iexact H1
  isplitl [H2]; · iexact H2
  iexact H3

/-- The body as the launch calls it. -/
theorem called (t : Fin (cfgM m).N) :
    defs₀ (F := F) .tc (cfgM m).body ((cfgM m).bodyArgs t ((cfgM m).slots t)) = bodyAt m t := by
  unfold defs₀; rw [Defs.onTc_tc]

/-- The result's block is another at every point, so every point writes it back. -/
theorem flush_3 : ∀ t : Fin (cfgM m).N, ((cfgM m).win 3).flush t = true :=
  (by decide +kernel : ∀ t : Fin grid0.N, Pipeline.Window.flushOf grid0 true cc0_transform_4 t = true)

/-- What a point leaves in the result's buffer is what is asked of it. -/
theorem leaves_3 (hO : Ok m) (c : Dev nD) (t : Fin (cfgM m).N) :
    owns (c : Thread nD τ) (spec0_3.stage ((cfgM m).slots t 3)) fullShare ((dats m hO 0 c).after 3 t)
      ⊢ ((dats (F := F) m hO 0 c).leavesExact 3 t : sProp 𝕄) := by
  unfold Dat.leavesExact
  rw [flush_3 m t]
  cases (cfgM m).idle 3 ((cfgM m).grid.coords t) <;> exact .rfl

theorem body (hO : Ok m) (c : Dev nD) : BodyObligation (dats (F := F) m hO 0 c) (defs₀ (F := F)) Variants.none () Set.univ := fun t => by
  rw [bigSep_W0, bigSep_W0, called m]
  refine triple_restated (at_point m hO c t) rfl .rfl fun _ => ?_
  unfold afterwards
  exact sep_mono .rfl (sep_mono .rfl (sep_mono .rfl (sep_mono .rfl (sep_mono .rfl (leaves_3 m hO c t)))))

/-! ## The run -/

/-- What the grid lent the body comes back. -/
theorem lent_back (c : Dev nD) : (iprop(Pipeline.ΦD osem spec0 H (V m) c ∗ Pipeline.ΦT pre0 (tbl m) c) : sProp 𝕄) ⊢ Pipeline.ΦD osem spec0 H (V m) c := by
  iintro ⟨HD, -⟩; iexact HD

set_option backward.isDefEq.respectTransparency.types false in
/-- The whole program runs to the end: the staged arrays hold what the proof data computes, the others what the grid
    found, and every semaphore is at zero. -/
theorem run (hO : Ok m) : θ_run defs (onTc (τ := τ) (main (F := F))) (s₀ m ρ)
    (fun r => (Pipeline.FramePost (Pipeline.pin pcfgs fun _ => adm m) (dats m hO) 0 (V m)) r ∧ r.2.sem = fun _ => 0) :=
  Pipeline.θ_run_frameP_dma (Q' := _) pcfgs (fun _ => adm m) (dats m hO) (0 : Fin 1) launch0 osem defs₀ Variants.none osem_facts H H_rest m ρ main
    (hbody := fun c => (body m hO c).loose) (hshare := fun c w => by unfold Dat.share; split <;> rfl) (howed := fun _ _ => rfl) (V := V m) (hmain := entry m)
    (hA := A_eq m hO) (hpf := V_tbl m) (hin := fun _ => .rfl) (hout := fun c => lent_back m c)

/-- The run, read at the result and the arguments. -/
theorem run_args (hO : Ok m) : θ_run defs (onTc (τ := τ) (main (F := F))) ⟨m, fun _ => 0, ρ⟩ (fun r => (∀ c : Dev nD,
      r.2.mem ((c.tc : Thread nD τ).loc main_v2) = (dats m hO 0 c).arrAt 3 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
    ((h.1 c).2 main_arg0 (by decide : main_arg0 ∈ Pipeline.restRefs sig spec0)).trans (V_of_ne m c main_arg0 (by decide) (by decide)),
    ((h.1 c).1 0).trans (((dats m hO 0 c).arrAt_in 0 rfl _).trans ((A_eq m hO c 0).trans (V_of_ne m c main_arg1 (by decide) (by decide)))),
    ((h.1 c).2 main_arg2 (by decide : main_arg2 ∈ Pipeline.restRefs sig spec0)).trans (V_of_ne m c main_arg2 (by decide) (by decide)),
    ((h.1 c).2 main_arg3 (by decide : main_arg3 ∈ Pipeline.restRefs sig spec0)).trans (V_of_ne m c main_arg3 (by decide) (by decide)),
    ((h.1 c).2 main_arg4 (by decide : main_arg4 ∈ Pipeline.restRefs sig spec0)).trans (V_of_ne m c main_arg4 (by decide) (by decide))⟩, h.2⟩)
    (run m ρ hO)

end Cert.CombineIdeal.Gather

end
-- ==== Proof.CombinePre.lean ====
/- The last call: what its precondition says of each row number, and that a table which meets it names rows inside the
   experts' output. -/
module

public import proofs.«01_k».proof.Proof.CombineFrame
public import proofs.«01_k».proof.Pre_rows_named
public import Idealize.ShloMosaic.Lib.StableHlo.Predicate

@[expose] public section

set_option maxRecDepth 16384

noncomputable section

namespace Cert.CombineIdeal.Gather

open Cert.CombineIdeal Cert.CombineIdeal.Gen
open Idealize.ShloMosaic Idealize.ShloMosaic.TcCoe

theorem both_set : ∀ a b : BitVec 1, a &&& b = 1#1 → a = 1#1 ∧ b = 1#1 := by decide

/-- A word between zero and the number of rows, by its signed comparisons. -/
theorem lt_of_signed {x : BitVec 32} (h0 : IntOp.cmpi .sge x 0#32 = 1#1) (h1 : IntOp.cmpi .slt x 22528#32 = 1#1) : x.toNat < 22528 := by
  simp only [IntOp.cmpi, StableHlo.Predicate.ofBool_eq_one_iff] at h0 h1
  simp only [BitVec.sle, BitVec.slt, decide_eq_true_eq, BitVec.toInt_eq_toNat_cond, BitVec.toNat_ofNat] at h0 h1
  have := x.isLt
  split_ifs at h0 h1 <;> omega

variable {F : FTy → Type} [FloatOps F]

/-- The precondition at one row. -/
theorem pre_at [Cert.Pre_rows_named.Facts] {a0 : IVec S16384 32} {a1 : FVec F S16384x2048 .f32} {a2 a3 : FVec F S2048 .f32} {a4 : FVec F S22528x2048 .f32}
    (h : Cert.Pre_rows_named.fn (F := F) a0 a1 a2 a3 a4 = fun _ => 1#1) (j : S16384.Idx) : (a0 j).toNat < 22528 := by
  have h' : (IntOp.cmpi .sge (a0 j) 0#32 &&& IntOp.cmpi .slt (a0 j) 22528#32) = 1#1 := congrFun h j
  obtain ⟨p0, p1⟩ := both_set _ _ h'
  exact lt_of_signed p0 p1

variable (m : (ℓ : Loc nD τ sig) → Buf (Elt F) ℓ)

/-- The table the launch reads is the argument as given. -/
theorem tbl_0 : tbl m 0 = m (((0 : Dev nD) : Thread nD τ).loc main_arg0) := V_of_ne m 0 main_arg0 (by decide) (by decide)

/-- The precondition, of a memory at any reading of its floats. -/
def Named [Cert.Pre_rows_named.Facts] : Prop := ∀ c : Dev nD, Cert.Pre_rows_named.fn (F := F) (m ((c : Thread nD τ).loc main_arg0)) (m ((c : Thread nD τ).loc main_arg1))
  (m ((c : Thread nD τ).loc main_arg2)) (m ((c : Thread nD τ).loc main_arg3)) (m ((c : Thread nD τ).loc main_arg4)) = fun _ => 1#1

/-- Under the precondition every row number lies inside the experts' output. -/
theorem ok_of_named [Cert.Pre_rows_named.Facts] (h : Named m) : Ok m := fun y => by
  rw [tbl_0]; exact pre_at (h 0) y

end Cert.CombineIdeal.Gather

end
-- ==== Proof.CombineValue.lean ====
/- The last call: what its kernel leaves in the result array is the reference's term. A row of the result is the row of
   the residual stream with the gated expert row added, brought to unit mean square and scaled. The kernel copies the
   expert rows the table names one by one, the reference takes them by a lookup. -/
module

public import proofs.«01_k».proof.Proof.CombinePre
public import proofs.«01_k».proof.Proof.Gen.CombineRefIdeal.Read
public import proofs.«01_k».proof.Proof.Gen.CombineRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-- One element of a row of the result: `x` the residual stream's row, `g` the gate, `r` the experts' row, `f` the scale. -/
def Cert.normed (x g r f : Fin 2048 → EReal) (q : Fin 2048) : EReal :=
  (x q + g q * r q) * Ideal.rsqrt (Ideal.div (∑ k, (x k + g k * r k) * (x k + g k * r k)) (Ideal.ofBits .f32 0x45000000#32) + Ideal.ofBits .f32 0x358637BD#32) * f q

/-! ## The reference at an element -/

namespace Cert.CombineRefIdeal.Take

open Cert.CombineRefIdeal Cert.CombineRefIdeal.Gen Cert.CombineRefIdeal.Read

/-- A row taken by its number, at an index. -/
theorem take_row {α : Type} (x : S22528x2048.Idx → α) (idx : IVec S16384x1 32) (y : S16384x2048.Idx) :
    Host.gather gather_S22528x2048_S16384x1_S16384x2048_1_0_n_n_0_1_12048 x idx y
      = x (ix2 ⟨min (idx (ix2 (y 0) 0)).toInt.toNat 22527, by omega⟩ (y 1)) := by
  unfold Host.gather
  refine congrArg x (funext fun a => Fin.ext ?_)
  show (gather_S22528x2048_S16384x1_S16384x2048_1_0_n_n_0_1_12048).start y idx a + (gather_S22528x2048_S16384x1_S16384x2048_1_0_n_n_0_1_12048).batchCoord y a + (gather_S22528x2048_S16384x1_S16384x2048_1_0_n_n_0_1_12048).offCoord y a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S22528x2048_S16384x1_S16384x2048_1_0_n_n_0_1_12048).startIndexMap from List.mem_singleton.mpr rfl)]
    have hsi : (gather_S22528x2048_S16384x1_S16384x2048_1_0_n_n_0_1_12048).siIdx y ⟨List.idxOf (0 : Fin 2) (gather_S22528x2048_S16384x1_S16384x2048_1_0_n_n_0_1_12048).startIndexMap,
        List.idxOf_lt_length_iff.2 (List.mem_singleton.mpr rfl)⟩ = ix2 (y 0) 0 := by
      funext b; refine Fin.ext ?_
      match b with
      | ⟨0, _⟩ => rfl
      | ⟨1, _⟩ => rfl
    exact congrArg (fun q => min (idx q).toInt.toNat 22527) hsi
  · unfold GatherDims.start
    rw [dif_neg (show ¬ (1 : Fin 2) ∈ (gather_S22528x2048_S16384x1_S16384x2048_1_0_n_n_0_1_12048).startIndexMap by decide)]
    exact (Nat.zero_add _).trans rfl

variable (x0 : (⟨S16384, .i32⟩ : BufTy).Contents (Elt Ideal)) (x1 : (⟨S16384x2048, .f32⟩ : BufTy).Contents (Elt Ideal))
  (x2 x3 : (⟨S2048, .f32⟩ : BufTy).Contents (Elt Ideal)) (x4 : (⟨S22528x2048, .f32⟩ : BufTy).Contents (Elt Ideal))

/-- A number below the number of rows is looked up as it is. -/
theorem clip_eq (w : BitVec 32) (h : w.toNat < 22528) : min w.toInt.toNat 22527 = w.toNat := by
  rw [StableHlo.Predicate.toInt_eq_toNat_of_lt (by omega)]
  omega

/-- The row added, at an element. -/
theorem taken_at (i : Fin 16384) (k : Fin 2048) (e : Fin 22528) (h : (x0 (ix1 i)).toNat = e.val) :
    (val_main_v0 (F := Ideal) x0 x4 (ix2 i k) : Elt Ideal .f32) = x4 (ix2 e k) := by
  have he : ∀ p, (⟨min (x0 (ix1 i)).toInt.toNat 22527, p⟩ : Fin 22528) = e := fun p =>
    Fin.ext ((clip_eq _ (h ▸ e.isLt)).trans h)
  unfold val_main_v0 val_main_call0_v0
  pointwise [take_row]
  simp only [he]

/-- The sum before the normalisation, at an element. -/
theorem sum_at (i : Fin 16384) (k : Fin 2048) (e : Fin 22528) (h : (x0 (ix1 i)).toNat = e.val) :
    (val_main_v4 (F := Ideal) x0 x1 x2 x4 (ix2 i k) : Elt Ideal .f32) = x1 (ix2 i k) + x2 (ix1 k) * x4 (ix2 e k) := by
  have ht := taken_at x0 x4 i k e h
  unfold val_main_v4 val_main_v3 val_main_v2 val_main_v1
  revert ht
  generalize val_main_v0 (F := Ideal) x0 x4 = z
  intro ht
  pointwise
  rw [ht]

/-- The result at an element. -/
theorem row_at (i : Fin 16384) (q : Fin 2048) (e : Fin 22528) (h : (x0 (ix1 i)).toNat = e.val) :
    (val_main_v17 (F := Ideal) x0 x1 x2 x3 x4 (ix2 i q) : Elt Ideal .f32)
      = Cert.normed (fun k => x1 (ix2 i k)) (fun k => x2 (ix1 k)) (fun k => x4 (ix2 e k)) (fun k => x3 (ix1 k)) q := by
  have hs := fun k => sum_at x0 x1 x2 x4 i k e h
  unfold val_main_v17 val_main_v16 val_main_v15 val_main_v14 val_main_v13 val_main_v12 val_main_v11 val_main_v10 val_main_cst_1
    val_main_v9 val_main_v8 val_main_cst_0 val_main_v7 val_main_v6 val_main_cst val_main_v5
  revert hs
  generalize val_main_v4 (F := Ideal) x0 x1 x2 x4 = z
  intro hs
  pointwise
  simp only [hs]
  rfl

end Cert.CombineRefIdeal.Take

/-! ## The kernel at an element -/

namespace Cert.CombineIdeal.Gather

open Cert.CombineIdeal Cert.CombineIdeal.Gen

/-- A block of rows, at an element. -/
theorem combined_at (x : Vec Ideal S256x2048 .f32) (g f : Vec Ideal S1x2048 .f32) (r : Vec Ideal S256x2048 .f32) (n : Fin 256) (q : Fin 2048) :
    (combined x g f r (ix2 n q) : Elt Ideal .f32)
      = Cert.normed (fun k => x (ix2 n k)) (fun k => g (ix2 0 k)) (fun k => r (ix2 n k)) (fun k => f (ix2 0 k)) q := by
  unfold combined
  pointwise [k0_pay1]
  rfl

variable (m : (ℓ : Loc nD τ sig) → Buf (Elt Ideal) ℓ)

/-- A list laid as one row, at an element. -/
theorem laid_row (x : Vec Ideal S2048 .f32) (h : S2048.ShapeCasts S1x2048) (k : Fin 2048) : (shapeCast S1x2048 x h (ix2 0 k) : Elt Ideal .f32) = x (ix1 k) := by
  pointwise

/-- The gate and the scale the grid finds: the arguments laid as one row. -/
theorem V_v0 (c : Dev nD) (k : Fin 2048) : V m c main_v0 (ix2 0 k) = m ((c : Thread nD τ).loc main_arg2) (ix1 k) := by
  entry_read
  exact laid_row _ _ k
theorem V_v1 (c : Dev nD) (k : Fin 2048) : V m c main_v1 (ix2 0 k) = m ((c : Thread nD τ).loc main_arg3) (ix1 k) := by
  entry_read
  exact laid_row _ _ k
theorem V_arg1 (c : Dev nD) : V m c main_arg1 = m ((c : Thread nD τ).loc main_arg1) := V_of_ne m c main_arg1 (by decide) (by decide)
theorem V_arg4 (c : Dev nD) : V m c main_arg4 = m ((c : Thread nD τ).loc main_arg4) := V_of_ne m c main_arg4 (by decide) (by decide)

/-- A grid point's one coordinate is its number. -/
theorem coord : ∀ t : Fin grid0.N, (grid0.coords t 0).val = t.val := by decide +kernel

/-- Row `r` of block `t`. -/
abbrev rowOf (t : Fin grid0.N) (r : Fin 256) : Fin 16384 := ⟨t.val * 256 + r.val, by have : t.val < 64 := t.isLt; omega⟩

/-- The block each window shows at a grid point. -/
theorem idx_0 (t : Fin grid0.N) : ((cfgM m).win 0).index t = ![t.val, 0] :=
  (by decide +kernel : ∀ t : Fin grid0.N, cc0_transform_0 (grid0.coords t) = ![t.val, 0]) t
theorem idx_1 (t : Fin grid0.N) : ((cfgM m).win 1).index t = ![0, 0] :=
  (by decide +kernel : ∀ t : Fin grid0.N, cc0_transform_1 (grid0.coords t) = ![0, 0]) t
theorem idx_2 (t : Fin grid0.N) : ((cfgM m).win 2).index t = ![0, 0] :=
  (by decide +kernel : ∀ t : Fin grid0.N, cc0_transform_2 (grid0.coords t) = ![0, 0]) t
theorem idx_3 (t : Fin grid0.N) : ((cfgM m).win 3).index t = ![t.val, 0] :=
  (by decide +kernel : ∀ t : Fin grid0.N, cc0_transform_4 (grid0.coords t) = ![t.val, 0]) t

/-- What each window's block holds at an index, in the arguments. -/
theorem blk_0 (c : Dev nD) (t : Fin grid0.N) (r : Fin 256) (k : Fin 2048) :
    (iblk m c 0 t (ix2 r k) : Elt Ideal .f32) = m ((c : Thread nD τ).loc main_arg1) (ix2 (rowOf t r) k) := by
  blk_simp [iblk, V_arg1, idx_0 m t]
  blk_ext [idx_0 m t]
theorem blk_1 (c : Dev nD) (t : Fin grid0.N) (k : Fin 2048) :
    (iblk m c 1 t (ix2 0 k) : Elt Ideal .f32) = m ((c : Thread nD τ).loc main_arg2) (ix1 k) := by
  refine Eq.trans ?_ (V_v0 m c k)
  blk_simp [iblk, idx_1 m t]
  blk_ext [idx_1 m t]
theorem blk_2 (c : Dev nD) (t : Fin grid0.N) (k : Fin 2048) :
    (iblk m c 2 t (ix2 0 k) : Elt Ideal .f32) = m ((c : Thread nD τ).loc main_arg3) (ix1 k) := by
  refine Eq.trans ?_ (V_v1 m c k)
  blk_simp [iblk, idx_2 m t]
  blk_ext [idx_2 m t]

/-- The reference's result on core `c`'s arguments. -/
abbrev wanted (c : Dev nD) := Cert.CombineRefIdeal.Read.val_main_v17 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The table's place for row `r` of grid point `t` is that row's number. -/
theorem slot_at (t : Fin grid0.N) (r : Fin 256) : slot (grid0.coords t) r = ix1 (rowOf t r) := by
  funext (a : Fin 1)
  obtain rfl : a = 0 := Subsingleton.elim _ _
  refine Fin.ext ?_
  show 256 * (grid0.coords t 0).val + r.val = t.val * 256 + r.val
  rw [coord]; omega

/-- A copied row, at an element. -/
theorem gathered_at (hO : Ok m) (c : Dev nD) (t : Fin grid0.N) (r : Fin 256) (k : Fin 2048) :
    (gathered (c := c) (tbl m 0) hO (grid0.coords t) (V m c main_arg4) (ix2 r k) : Elt Ideal .f32)
      = m ((c : Thread nD τ).loc main_arg4) (ix2 (from' (c := c) (tbl m 0) hO (grid0.coords t) r) k) := by
  unfold gathered
  rw [V_arg4]
  refine congrArg (m ((c : Thread nD τ).loc main_arg4)) ?_
  funext (a : Fin 2)
  match a with
  | ⟨0, _⟩ => rfl
  | ⟨1, _⟩ => rfl

/-- One element a grid point leaves is the reference's. -/
theorem point (hO : Ok m) (c : Dev nD) (t : Fin grid0.N) (r : Fin 256) (q : Fin 2048) :
    (left m hO c t (ix2 r q) : Elt Ideal .f32) = wanted m c (ix2 (rowOf t r) q) := by
  obtain rfl : c = 0 := Subsingleton.elim _ _
  refine Eq.trans ?_ (Cert.CombineRefIdeal.Take.row_at _ _ _ _ _ (rowOf t r) q (from' (c := (0 : Dev nD)) (tbl m 0) hO (grid0.coords t) r)
    (by rw [← tbl_0 m, ← slot_at]; rfl)).symm
  unfold left
  refine (combined_at _ _ _ _ r q).trans ?_
  simp only [blk_0 m, blk_1 m, blk_2 m, gathered_at m hO]

/-- The points' blocks cover the result array. -/
theorem covers : ((cfgM m).win 3).Covers := by
  refine ⟨fun a => match a with | ⟨0, _⟩ => (by show 0 < 256; omega) | ⟨1, _⟩ => (by show 0 < 2048; omega), fun β => ?_⟩
  have h0 : (β (0 : Fin 2)).val < 64 := lt_of_lt_of_eq (β (0 : Fin 2)).isLt (show (16384 + 256 - 1) / 256 = 64 by norm_num)
  have h1 : (β (1 : Fin 2)).val < 1 := lt_of_lt_of_eq (β (1 : Fin 2)).isLt (show (2048 + 2048 - 1) / 2048 = 1 by norm_num)
  refine ⟨⟨(β (0 : Fin 2)).val, h0⟩, flush_3 m _, fun a => ⟨?_, .inl rfl⟩⟩
  rw [idx_3 m]
  match a with
  | ⟨0, _⟩ => rfl
  | ⟨1, _⟩ => exact (Nat.lt_one_iff.mp h1).symm

/-- The result array after the run. -/
theorem final (hO : Ok m) (c : Dev nD) : (dats m hO 0 c).arrAt 3 (cfgM m).N = wanted m c := by
  refine (dats m hO 0 c).arrAt_eq_of_covers 3 _ (covers m) fun t _ y => ?_
  blk_simp
  rw [after_3]
  have hy : ((((cfgM m).win 3).blk t).view.emb y : S16384x2048.Idx) = ix2 (rowOf t (y (0 : Fin 2))) (y (1 : Fin 2)) := by
    blk_ext [idx_3 m t]
  have hy' : (y : S256x2048.Idx) = ix2 (y (0 : Fin 2)) (y (1 : Fin 2)) := by
    blk_ext [idx_3 m t]
  refine (congrArg (left m hO c t) hy').trans ((point m hO c t _ _).trans (congrArg (wanted m c) hy.symm))

/-- The kernel's run on a table that names rows, its result the reference's term of the arguments. -/
theorem run_value [Cert.Pre_rows_named.Facts] (h : Named m) (ρ : Dev nD → PrngReg) :
    θ_run defs (onTc (τ := τ) (main (F := Ideal))) ⟨m, fun _ => 0, ρ⟩ fun r => ∀ c : Dev nD,
      r.2.mem ((c : Thread nD τ).loc main_v2) = wanted m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ hr c => ⟨((hr.1 c).1).trans (final m (ok_of_named m h) c), (hr.1 c).2⟩)
    (run_args m ρ (ok_of_named m h))

end Cert.CombineIdeal.Gather

end
-- ==== Proof.CombineBits.lean ====
/- The last call's program at its machine floats: it is text for text the idealized one, so that program's run at bits is its run. -/
module

public import proofs.«01_k».proof.Defs
public import proofs.«01_k».proof.Proof.Gen.Combine
public import proofs.«01_k».proof.Proof.Gen.CombineIdeal
public import proofs.«01_k».proof.Proof.CombineFrame
public import proofs.«01_k».proof.Proof.CombinePre

@[expose] public section

namespace Cert.Proof

open Idealize.ShloMosaic Idealize.SL.Sem

set_option maxHeartbeats 400000
/-- The two programs have one body table, -/
theorem combine_defs0_same : Cert.Combine.defs₀ (F := Bits) = Cert.CombineIdeal.defs₀ (F := Bits) := by
  unfold Cert.Combine.defs₀ Cert.CombineIdeal.defs₀
  refine congrArg Defs.onTc ?_
  funext l x
  match l, x with
  | ⟨0, _⟩, (t, s) => exact rfl
/-- and with the pipeline around it one table of definitions. -/
theorem combine_defs_same : Cert.Combine.defs (F := Bits) = Cert.CombineIdeal.defs (F := Bits) :=
  congrArg (Pipeline.defs (Cert.CombineIdeal.pcfgs (F := Bits))) combine_defs0_same

/-- What the precondition's own operations take. -/
theorem rows_named_facts : Cert.Pre_rows_named.Facts := ⟨by decide⟩
/-- The last call runs to the end and keeps its arguments, its table naming rows. -/
theorem frame_combine : Cert.quiescent_Combine (hPre_rows_named := rows_named_facts) := by
  letI := rows_named_facts
  intro m ρ h
  rw [combine_defs_same]
  refine (θ_run Cert.CombineIdeal.defs (onTc (τ := Cert.CombineIdeal.τ) (Cert.CombineIdeal.main (F := Bits))) _).mono ?_
    (Cert.CombineIdeal.Gather.run_args (F := Bits) m ρ (Cert.CombineIdeal.Gather.ok_of_named m h))
  exact fun _ hr => ⟨fun c => (hr.1 c).2, hr.2⟩

end Cert.Proof
-- ==== Proof.Rope.lean ====
/- Rotary positions: the angle of a row and a frequency, shared by the two query projections. -/
module

public import Idealize.ShloMosaic.Lib.Pipeline.ValueKit
public import Idealize.ShloMosaic.Lib.Pointwise

@[expose] public section

noncomputable section

open Idealize.ShloMosaic Idealize.ShloMosaic.TcCoe

namespace Cert.Rope

/-- The angle row `i` turns its `k`-th pair of columns by: the position times the base to the power `-k / half`. The base
    is ten thousand; `half`, the number of pairs, is given by its bits. -/
def angle (half : BitVec 32) (i k : ℕ) : EReal :=
  FloatOps.sitofp (F := Ideal) .f32 (BitVec.ofNat 32 i) *
    Ideal.pow (Ideal.ofBits .f32 0x461C4000#32)
      (Ideal.div (-FloatOps.sitofp (F := Ideal) .f32 (BitVec.ofNat 32 k)) (Ideal.ofBits .f32 half))

/-- The bits of minus one. -/
theorem neg_one : Ideal.ofBits .f32 0xBF800000#32 = -1 := by
  rw [show (-1 : EReal) = ((-(1 : ℝ)) : EReal) by simp]
  simp [Ideal.ofBits, Ideal.ieee, -EReal.coe_mul, -EReal.coe_neg]
  rw [← EReal.coe_one, ← EReal.coe_neg]
  norm_num

/-- Adding the second half against the sine with its sign turned is subtracting it. -/
theorem turn_low (a b c s : EReal) : a * c + b * (s * -1) = a * c - b * s := by
  rw [mul_neg, mul_one, mul_neg, sub_eq_add_neg]

end Cert.Rope

end
-- ==== Proof.QueryValue.lean ====
/- The queries: a projection of the attention's input, each head of 128 columns turned by rotary positions. What the tiled
   kernel leaves in its result array is the reference's term. One grid point computes a 512 x 512 tile, four heads wide,
   from a row block, a column block of the weights and the row block of the two tables; a head is turned by adding its
   columns rolled by half a head against a sine table whose sign is turned in the first half. -/
module

public import proofs.«01_k».proof.Proof.Gen.QueryIdeal.Value
public import proofs.«01_k».proof.Proof.Gen.QueryRefIdeal.Read
public import proofs.«01_k».proof.Proof.Gen.QueryRefIdeal.Run
public import proofs.«01_k».proof.Proof.Rope
public import Idealize.ShloMosaic.Lib.Pipeline.ValueKit
public import Idealize.ShloMosaic.Lib.Pointwise
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an element -/

namespace Cert.QueryRefIdeal.Turn

open Cert.QueryRefIdeal Cert.QueryRefIdeal.Gen Cert.QueryRefIdeal.Read

variable (x0 : (⟨S16384x2048, .bf16⟩ : BufTy).Contents (Elt Ideal)) (x1 : (⟨S2048x4176, .f32⟩ : BufTy).Contents (Elt Ideal))

/-- The projection's element in column `q` of row `i`. -/
def proj (i : Fin 16384) (q : ℕ) (hq : q < 2048) : EReal :=
  ∑ k : Fin 2048, x0 (ix2 i k) * x1 (ix2 k ⟨q, lt_trans hq (by decide)⟩)

/-- The angles, at an element. -/
theorem angle_at (i : Fin 16384) (k : Fin 64) :
    (val_main_v16 (F := Ideal) (ix2 i k) : Elt Ideal .f32) = Cert.Rope.angle 0x42800000#32 i k := by
  unfold val_main_v16 val_main_v15 val_main_v14 val_main_v13 val_main_v12 val_main_v11 val_main_v10 val_main_v9 val_main_cst_0
    val_main_v8 val_main_v7 val_main_cst val_main_v6 val_main_v5 val_main_v4
  pointwise
  rfl

/-- The projection by heads, at an element. -/
theorem proj_at (i : Fin 16384) (h : Fin 16) (l : Fin 128) :
    (val_main_v3 (F := Ideal) x0 x1 (ix3 i h l) : Elt Ideal .f32) = proj x0 x1 i (h.val * 128 + l.val) (by omega) := by
  unfold val_main_v3 val_main_v2 val_main_v1 val_main_v0
  pointwise
  rfl

/-- The result in the first half of a head. -/
theorem low_at (i : Fin 16384) (q : Fin 2048) (hq : q.val % 128 < 64) :
    (val_main_v35 (F := Ideal) x0 x1 (ix2 i q) : Elt Ideal .bf16)
      = proj x0 x1 i q.val q.isLt * Ideal.cos (Cert.Rope.angle 0x42800000#32 i (q.val % 64))
        - proj x0 x1 i (q.val + 64) (by omega) * Ideal.sin (Cert.Rope.angle 0x42800000#32 i (q.val % 64)) := by
  have ha := fun k => angle_at i k
  have hp := fun h l => proj_at x0 x1 i h l
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
  revert ha hp
  generalize val_main_v16 (F := Ideal) = A
  generalize val_main_v3 (F := Ideal) x0 x1 = P
  intro ha hp
  pointwise
  rw [dif_pos hq]
  simp only [ha, hp]
  have e1 : q.val / 128 * 128 + q.val % 128 = q.val := by omega
  have e2 : q.val / 128 * 128 + (64 + q.val % 128) = q.val + 64 := by omega
  have e3 : q.val % 128 = q.val % 64 := by omega
  simp only [e1, e2]
  simp only [e3]

/-- The result in the second half of a head. -/
theorem high_at (i : Fin 16384) (q : Fin 2048) (hq : ¬ q.val % 128 < 64) :
    (val_main_v35 (F := Ideal) x0 x1 (ix2 i q) : Elt Ideal .bf16)
      = proj x0 x1 i q.val q.isLt * Ideal.cos (Cert.Rope.angle 0x42800000#32 i (q.val % 64))
        + proj x0 x1 i (q.val - 64) (by omega) * Ideal.sin (Cert.Rope.angle 0x42800000#32 i (q.val % 64)) := by
  have ha := fun k => angle_at i k
  have hp := fun h l => proj_at x0 x1 i h l
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
  revert ha hp
  generalize val_main_v16 (F := Ideal) = A
  generalize val_main_v3 (F := Ideal) x0 x1 = P
  intro ha hp
  pointwise
  rw [dif_neg hq]
  simp only [ha, hp]
  have e1 : q.val / 128 * 128 + (64 + (q.val % 128 - 64)) = q.val := by omega
  have e2 : q.val / 128 * 128 + (q.val % 128 - 64) = q.val - 64 := by omega
  have e3 : q.val % 128 - 64 = q.val % 64 := by omega
  simp only [e1, e2]
  simp only [e3]

end Cert.QueryRefIdeal.Turn

/-! ## The kernel -/

namespace Cert.QueryIdeal.Turn

open Cert.QueryIdeal Cert.QueryIdeal.Gen

variable (m : (ℓ : Loc nD τ sig) → Buf (Elt Ideal) ℓ)

/-- The weights the region reads: the argument, its cast the identity at the ideal reading. -/
theorem V_w (c : Dev nD) (i : S2048x4176.Idx) : V m c main_v76 i = m ((c : Thread nD τ).loc main_arg1) i := by
  entry_read
  rfl

/-- A column taken by its number, at an index. -/
theorem take_col {α : Type} (x : S16384x64.Idx → α) (idx : IVec S128x1 32) (y : S16384x128.Idx) :
    Host.gather gather_S16384x64_S128x1_S16384x128_0_1_n_n_1_1_163841 x idx y
      = x (ix2 (y 0) ⟨min (idx (ix2 (y 1) 0)).toInt.toNat 63, by omega⟩) := by
  unfold Host.gather
  refine congrArg x (funext fun a => Fin.ext ?_)
  show (gather_S16384x64_S128x1_S16384x128_0_1_n_n_1_1_163841).start y idx a + (gather_S16384x64_S128x1_S16384x128_0_1_n_n_1_1_163841).batchCoord y a + (gather_S16384x64_S128x1_S16384x128_0_1_n_n_1_1_163841).offCoord y a = _
  rw [GatherDims.batchCoord_eq_zero _ _ _ List.not_mem_nil]
  have h01 : a = 1 ∨ a = 0 := by
    match a with
    | ⟨0, _⟩ => exact .inr rfl
    | ⟨1, _⟩ => exact .inl rfl
  rcases h01 with rfl | rfl
  · rw [GatherDims.offCoord_eq_zero _ _ _ (fun h => ((GatherDims.mem_sKept _ _).mp h).1 (List.mem_singleton.mpr rfl))]
    unfold GatherDims.start
    rw [dif_pos (show (1 : Fin 2) ∈ (gather_S16384x64_S128x1_S16384x128_0_1_n_n_1_1_163841).startIndexMap from List.mem_singleton.mpr rfl)]
    have hsi : (gather_S16384x64_S128x1_S16384x128_0_1_n_n_1_1_163841).siIdx y ⟨List.idxOf (1 : Fin 2) (gather_S16384x64_S128x1_S16384x128_0_1_n_n_1_1_163841).startIndexMap,
        List.idxOf_lt_length_iff.2 (List.mem_singleton.mpr rfl)⟩ = ix2 (y 1) 0 := by
      funext b; refine Fin.ext ?_
      match b with
      | ⟨0, _⟩ => rfl
      | ⟨1, _⟩ => rfl
    exact congrArg (fun q => min (idx q).toInt.toNat 63) hsi
  · unfold GatherDims.start
    rw [dif_neg (show ¬ (0 : Fin 2) ∈ (gather_S16384x64_S128x1_S16384x128_0_1_n_n_1_1_163841).startIndexMap by decide)]
    exact (Nat.zero_add _).trans rfl

/-- Columns taken by a table that names column `l % 64` at lane `l`. -/
theorem taken_at {α : Type} (x : S16384x64.Idx → α) (idx : IVec S128x1 32) (i : Fin 16384) (l : Fin 128)
    (h : ∀ l : Fin 128, (idx (ix2 l 0)).toInt.toNat = l.val % 64) :
    Host.gather gather_S16384x64_S128x1_S16384x128_0_1_n_n_1_1_163841 x idx (ix2 i l) = x (ix2 i ⟨l.val % 64, Nat.mod_lt _ (by decide)⟩) := by
  rw [take_col]
  refine congrArg x (congrArg (ix2 i) (Fin.ext ?_))
  show min (idx (ix2 l 0)).toInt.toNat 63 = l.val % 64
  rw [h l]
  omega

/-- A table times a row of signs that is minus one below lane 64 and one from there on. -/
theorem signed_at (x : FVec Ideal S16384x128 .f32) (b : IVec S128 1) (i : Fin 16384) (l : Fin 128)
    (h : ∀ l : Fin 128, b (ix1 l) = if l.val < 64 then 1#1 else 0#1) :
    mulf x (broadcastInDim S16384x128 ![0, 1] bcast_S1x128_S16384x128_0_1 (broadcastInDim S1x128 ![1] bcast_S128_S1x128_1
        (select b (broadcastInDim S128 ![] bcast_S_S128 (constant (F := Ideal) S_ .f32 0xBF800000#32))
          (broadcastInDim S128 ![] bcast_S_S128 (constant (F := Ideal) S_ .f32 0x3F800000#32))))) (ix2 i l)
      = x (ix2 i l) * (if l.val < 64 then -1 else 1 : EReal) := by
  pointwise
  rw [h l]
  rw [Cert.Rope.neg_one]
  split <;> simp [Scalar.select]

/-- The cosine table the region reads: lane `l` of row `i` at the angle of that row and pair `l % 64`. -/
theorem V_cos (c : Dev nD) (i : Fin 16384) (l : Fin 128) :
    V m c main_v23 (ix2 i l) = Ideal.cos (Cert.Rope.angle 0x42800000#32 i (l % 64)) := by
  show StableHlo.after (List.flatten _) _ _ _ = _
  simp only [List.flatten_cons, List.flatten_nil, List.append_nil]
  after_reads_simp
  refine (taken_at _ _ i l ?_).trans ?_
  · decide +kernel
  · pointwise
    rfl

/-- The sine table the region reads: the same angles, the sign turned in the first half of the lanes. -/
theorem V_sin (c : Dev nD) (i : Fin 16384) (l : Fin 128) :
    V m c main_v39 (ix2 i l) = Ideal.sin (Cert.Rope.angle 0x42800000#32 i (l % 64)) * (if l.val < 64 then -1 else 1) := by
  show StableHlo.after (List.flatten _) _ _ _ = _
  simp only [List.flatten_cons, List.flatten_nil, List.append_nil]
  after_reads_simp
  refine (signed_at _ _ i l ?_).trans ?_
  · decide +kernel
  · rw [taken_at _ _ i l (by decide +kernel)]
    pointwise
    rfl

/-- The block every window shows at a grid point, all points at once. -/
theorem idx : ∀ t : Fin cfg0.N,
    win0_0.index t = ![t.val / 4, 0] ∧ win0_1.index t = ![0, t.val % 4] ∧ win0_2.index t = ![t.val / 4, 0]
    ∧ win0_3.index t = ![t.val / 4, 0] ∧ win0_4.index t = ![t.val / 4, t.val % 4] ∧ t.val / 4 < 32 :=
  (by decide +kernel : ∀ t : Fin grid0.N, _)

/-- The row of the array under row `r` of point `t`'s blocks. -/
def row (t : Fin cfg0.N) (r : Fin 512) : Fin 16384 := ⟨t.val / 4 * 512 + r.val, by have := (idx t).2.2.2.2.2; omega⟩

/-- The row block, at an element. -/
theorem rows_at (c : Dev nD) (t : Fin cfg0.N) (r : Fin 512) (k : Fin 2048) :
    (show EReal from iblk m c 0 t (ix2 r k)) = m ((c : Thread nD τ).loc main_arg0) (ix2 (row t r) k) := by
  blk_simp [iblk, V_main_arg0, idx t]
  blk_ext [row, idx t]

/-- The weights' column block, at an element. -/
theorem cols_at (c : Dev nD) (t : Fin cfg0.N) (k : Fin 2048) (n : Fin 512) :
    (show EReal from X0_1 m c t (ix2 k n)) = m ((c : Thread nD τ).loc main_arg1) (ix2 k ⟨t.val % 4 * 512 + n.val, by omega⟩) := by
  show (cfg0.win 1).fill _ _ _ _ = _
  unfold Pipeline.Window.fill
  rw [dif_pos (moved0_1 t _)]
  blk_simp [iblk, idx t]
  refine (V_w m c _).trans ?_
  blk_ext [idx t]

/-- The cosine table's row block, at an element. -/
theorem cos_at (c : Dev nD) (t : Fin cfg0.N) (r : Fin 512) (l : Fin 128) :
    (show EReal from iblk m c 2 t (ix2 r l)) = Ideal.cos (Cert.Rope.angle 0x42800000#32 (row t r) (l % 64)) := by
  refine Eq.trans ?_ (V_cos m c (row t r) l)
  blk_simp [iblk, idx t]
  blk_ext [row, idx t]

/-- The sine table's row block, at an element. -/
theorem sin_at (c : Dev nD) (t : Fin cfg0.N) (r : Fin 512) (l : Fin 128) :
    (show EReal from iblk m c 3 t (ix2 r l)) = Ideal.sin (Cert.Rope.angle 0x42800000#32 (row t r) (l % 64)) * (if l.val < 64 then -1 else 1) := by
  refine Eq.trans ?_ (V_sin m c (row t r) l)
  blk_simp [iblk, idx t]
  blk_ext [row, idx t]

/-- A column of the projection, read through the blocks. -/
theorem dot_at (c : Dev nD) (t : Fin cfg0.N) (r : Fin 512) (n : Fin 512) :
    (∑ k : Fin 2048, (show EReal from iblk m c 0 t (ix2 r k)) * (show EReal from X0_1 m c t (ix2 k n)))
      = Cert.QueryRefIdeal.Turn.proj (m ((c : Thread nD τ).loc main_arg0)) (m ((c : Thread nD τ).loc main_arg1)) (row t r)
          (t.val % 4 * 512 + n.val) (by omega) := by
  refine Finset.sum_congr rfl fun k _ => ?_
  rw [rows_at, cols_at]

/-- A head's element after the turn is the reference's element: head `o` of the tile, row `r`, lane `l`. -/
theorem core (c : Dev nD) (t : Fin cfg0.N) (o : ℕ) (ho : o % 128 = 0) (ho' : o ≤ 384) (r : Fin 512) (l : Fin 128)
    (n n' : Fin 512) (hn : n.val = o + l.val) (hn' : n'.val = o + (l.val + 128 - 64) % 128)
    (j : S16384x2048.Idx) (hj0 : (j 0 : ℕ) = t.val / 4 * 512 + r.val) (hj1 : (j 1 : ℕ) = t.val % 4 * 512 + o + l.val) :
    (∑ k : Fin 2048, (show EReal from iblk m c 0 t (ix2 r k)) * (show EReal from X0_1 m c t (ix2 k n))) * (show EReal from iblk m c 2 t (ix2 r l))
        + (∑ k : Fin 2048, (show EReal from iblk m c 0 t (ix2 r k)) * (show EReal from X0_1 m c t (ix2 k n'))) * (show EReal from iblk m c 3 t (ix2 r l))
      = Cert.QueryRefIdeal.Read.val_main_v35 (F := Ideal) (m ((c : Thread nD τ).loc main_arg0)) (m ((c : Thread nD τ).loc main_arg1)) j := by
  obtain ⟨q, hq⟩ : ∃ q : Fin 2048, q.val = t.val % 4 * 512 + o + l.val := ⟨⟨_, by omega⟩, rfl⟩
  have hj : j = ix2 (row t r) q := by
    funext a
    refine Fin.ext ?_
    match a with
    | ⟨0, _⟩ => exact hj0
    | ⟨1, _⟩ => exact hj1.trans hq.symm
  rw [dot_at, dot_at, cos_at, sin_at, hj]
  have e1 : t.val % 4 * 512 + n.val = q.val := by omega
  have e3 : l.val % 64 = q.val % 64 := by omega
  by_cases hl : l.val < 64
  · rw [Cert.QueryRefIdeal.Turn.low_at _ _ _ _ (by omega), if_pos hl, Cert.Rope.turn_low]
    have e2 : t.val % 4 * 512 + n'.val = q.val + 64 := by omega
    simp only [e1, e2, e3]
  · rw [Cert.QueryRefIdeal.Turn.high_at _ _ _ _ (by omega), if_neg hl, mul_one]
    have e2 : t.val % 4 * 512 + n'.val = q.val - 64 := by omega
    simp only [e1, e2, e3]

/-- The result array after the run. -/
theorem final (c : Dev nD) : (dats m 0 c).arrAt 4 cfg0.N
    = Cert.QueryRefIdeal.Read.val_main_v35 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  canon_tiles x h
  · refine Eq.trans ?_ (core m c t 384 (by decide) (by decide) (x 0) (x 1) ⟨384 + x 1, by omega⟩ ⟨384 + (x 1 + 128 - 64) % 128, by omega⟩ rfl rfl _ ?_ ?_)
    · pointwise [k0_pay7, k0_pay1, k0_pay2, k0_pay3]
    all_goals (blk_simp [idx t] <;> try omega)
  · refine Eq.trans ?_ (core m c t 256 (by decide) (by decide) (x 0) (x 1) ⟨256 + x 1, by omega⟩ ⟨256 + (x 1 + 128 - 64) % 128, by omega⟩ rfl rfl _ ?_ ?_)
    · pointwise [k0_pay6, k0_pay1, k0_pay2, k0_pay3]
    all_goals (blk_simp [idx t] <;> try omega)
  · refine Eq.trans ?_ (core m c t 128 (by decide) (by decide) (x 0) (x 1) ⟨128 + x 1, by omega⟩ ⟨128 + (x 1 + 128 - 64) % 128, by omega⟩ rfl rfl _ ?_ ?_)
    · pointwise [k0_pay5, k0_pay1, k0_pay2, k0_pay3]
    all_goals (blk_simp [idx t] <;> try omega)
  · refine Eq.trans ?_ (core m c t 0 (by decide) (by decide) (x 0) (x 1) ⟨x 1, by omega⟩ ⟨(x 1 + 128 - 64) % 128, by omega⟩ (Nat.zero_add _).symm (Nat.zero_add _).symm _ ?_ ?_)
    · pointwise [k0_pay4, k0_pay1, k0_pay2, k0_pay3]
    all_goals (blk_simp [idx t] <;> try omega)

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v77)
        = Cert.QueryRefIdeal.Read.val_main_v35 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.QueryIdeal.Value.run_blocks m ρ)

end Cert.QueryIdeal.Turn

end
-- ==== Proof.IndexQueryValue.lean ====
/- The indexer's queries: a projection of the attention's input, each head of 64 columns turned by rotary positions. What
   the tiled kernel leaves in its result array is the reference's term. One grid point computes a 512 x 512 tile, eight
   heads wide, in groups of two heads: a group's columns are rolled by half a head to the left and to the right, each lane
   takes the one that holds its partner, and the turn is an addition against a sine table whose sign is turned in the first
   half of every head. The projection's columns begin at column 3072 of the weights. -/
module

public import proofs.«01_k».proof.Proof.Gen.IndexQueryIdeal.Value
public import proofs.«01_k».proof.Proof.Gen.IndexQueryRefIdeal.Read
public import proofs.«01_k».proof.Proof.Gen.IndexQueryRefIdeal.Run
public import proofs.«01_k».proof.Proof.Rope
public import Idealize.ShloMosaic.Lib.Pipeline.ValueKit
public import Idealize.ShloMosaic.Lib.Pointwise
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an element -/

namespace Cert.IndexQueryRefIdeal.Turn

open Cert.IndexQueryRefIdeal Cert.IndexQueryRefIdeal.Gen Cert.IndexQueryRefIdeal.Read

variable (x0 : (⟨S16384x2048, .bf16⟩ : BufTy).Contents (Elt Ideal)) (x1 : (⟨S2048x4176, .f32⟩ : BufTy).Contents (Elt Ideal))

/-- The projection's element in column `q` of row `i`. -/
def proj (i : Fin 16384) (q : ℕ) (hq : q < 1024) : EReal :=
  ∑ k : Fin 2048, x0 (ix2 i k) * x1 (ix2 k ⟨3072 + q, by omega⟩)

/-- The angles, at an element. -/
theorem angle_at (i : Fin 16384) (k : Fin 32) :
    (val_main_v16 (F := Ideal) (ix2 i k) : Elt Ideal .f32) = Cert.Rope.angle 0x42000000#32 i k := by
  unfold val_main_v16 val_main_v15 val_main_v14 val_main_v13 val_main_v12 val_main_v11 val_main_v10 val_main_v9 val_main_cst_0
    val_main_v8 val_main_v7 val_main_cst val_main_v6 val_main_v5 val_main_v4
  pointwise
  rfl

/-- The projection by heads, at an element. -/
theorem proj_at (i : Fin 16384) (h : Fin 16) (l : Fin 64) :
    (val_main_v3 (F := Ideal) x0 x1 (ix3 i h l) : Elt Ideal .f32) = proj x0 x1 i (h.val * 64 + l.val) (by omega) := by
  unfold val_main_v3 val_main_v2 val_main_v1 val_main_v0
  pointwise
  rfl

/-- The result in the first half of a head. -/
theorem low_at (i : Fin 16384) (q : Fin 1024) (hq : q.val % 64 < 32) :
    (val_main_v35 (F := Ideal) x0 x1 (ix2 i q) : Elt Ideal .bf16)
      = proj x0 x1 i q.val q.isLt * Ideal.cos (Cert.Rope.angle 0x42000000#32 i (q.val % 32))
        - proj x0 x1 i (q.val + 32) (by omega) * Ideal.sin (Cert.Rope.angle 0x42000000#32 i (q.val % 32)) := by
  have ha := fun k => angle_at i k
  have hp := fun h l => proj_at x0 x1 i h l
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
  revert ha hp
  generalize val_main_v16 (F := Ideal) = A
  generalize val_main_v3 (F := Ideal) x0 x1 = P
  intro ha hp
  pointwise
  rw [dif_pos hq]
  simp only [ha, hp]
  have e1 : q.val / 64 * 64 + q.val % 64 = q.val := by omega
  have e2 : q.val / 64 * 64 + (32 + q.val % 64) = q.val + 32 := by omega
  have e3 : q.val % 64 = q.val % 32 := by omega
  simp only [e1, e2]
  simp only [e3]

/-- The result in the second half of a head. -/
theorem high_at (i : Fin 16384) (q : Fin 1024) (hq : ¬ q.val % 64 < 32) :
    (val_main_v35 (F := Ideal) x0 x1 (ix2 i q) : Elt Ideal .bf16)
      = proj x0 x1 i q.val q.isLt * Ideal.cos (Cert.Rope.angle 0x42000000#32 i (q.val % 32))
        + proj x0 x1 i (q.val - 32) (by omega) * Ideal.sin (Cert.Rope.angle 0x42000000#32 i (q.val % 32)) := by
  have ha := fun k => angle_at i k
  have hp := fun h l => proj_at x0 x1 i h l
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18 val_main_v17
  revert ha hp
  generalize val_main_v16 (F := Ideal) = A
  generalize val_main_v3 (F := Ideal) x0 x1 = P
  intro ha hp
  pointwise
  rw [dif_neg hq]
  simp only [ha, hp]
  have e1 : q.val / 64 * 64 + (32 + (q.val % 64 - 32)) = q.val := by omega
  have e2 : q.val / 64 * 64 + (q.val % 64 - 32) = q.val - 32 := by omega
  have e3 : q.val % 64 - 32 = q.val % 32 := by omega
  simp only [e1, e2]
  simp only [e3]

end Cert.IndexQueryRefIdeal.Turn

/-! ## The kernel -/

namespace Cert.IndexQueryIdeal.Turn

open Cert.IndexQueryIdeal Cert.IndexQueryIdeal.Gen

variable (m : (ℓ : Loc nD τ sig) → Buf (Elt Ideal) ℓ)

/-- The weights the region reads: the argument, its cast the identity at the ideal reading. -/
theorem V_w (c : Dev nD) (i : S2048x4176.Idx) : V m c main_v76 i = m ((c : Thread nD τ).loc main_arg1) i := by
  entry_read
  rfl

/-- A column taken by its number, at an index. -/
theorem take_col {α : Type} (x : S16384x32.Idx → α) (idx : IVec S128x1 32) (y : S16384x128.Idx) :
    Host.gather gather_S16384x32_S128x1_S16384x128_0_1_n_n_1_1_163841 x idx y
      = x (ix2 (y 0) ⟨min (idx (ix2 (y 1) 0)).toInt.toNat 31, by omega⟩) := by
  unfold Host.gather
  refine congrArg x (funext fun a => Fin.ext ?_)
  show (gather_S16384x32_S128x1_S16384x128_0_1_n_n_1_1_163841).start y idx a + (gather_S16384x32_S128x1_S16384x128_0_1_n_n_1_1_163841).batchCoord y a + (gather_S16384x32_S128x1_S16384x128_0_1_n_n_1_1_163841).offCoord y a = _
  rw [GatherDims.batchCoord_eq_zero _ _ _ List.not_mem_nil]
  have h01 : a = 1 ∨ a = 0 := by
    match a with
    | ⟨0, _⟩ => exact .inr rfl
    | ⟨1, _⟩ => exact .inl rfl
  rcases h01 with rfl | rfl
  · rw [GatherDims.offCoord_eq_zero _ _ _ (fun h => ((GatherDims.mem_sKept _ _).mp h).1 (List.mem_singleton.mpr rfl))]
    unfold GatherDims.start
    rw [dif_pos (show (1 : Fin 2) ∈ (gather_S16384x32_S128x1_S16384x128_0_1_n_n_1_1_163841).startIndexMap from List.mem_singleton.mpr rfl)]
    have hsi : (gather_S16384x32_S128x1_S16384x128_0_1_n_n_1_1_163841).siIdx y ⟨List.idxOf (1 : Fin 2) (gather_S16384x32_S128x1_S16384x128_0_1_n_n_1_1_163841).startIndexMap,
        List.idxOf_lt_length_iff.2 (List.mem_singleton.mpr rfl)⟩ = ix2 (y 1) 0 := by
      funext b; refine Fin.ext ?_
      match b with
      | ⟨0, _⟩ => rfl
      | ⟨1, _⟩ => rfl
    exact congrArg (fun q => min (idx q).toInt.toNat 31) hsi
  · unfold GatherDims.start
    rw [dif_neg (show ¬ (0 : Fin 2) ∈ (gather_S16384x32_S128x1_S16384x128_0_1_n_n_1_1_163841).startIndexMap by decide)]
    exact (Nat.zero_add _).trans rfl

/-- Columns taken by a table that names column `l % 32` at lane `l`. -/
theorem taken_at {α : Type} (x : S16384x32.Idx → α) (idx : IVec S128x1 32) (i : Fin 16384) (l : Fin 128)
    (h : ∀ l : Fin 128, (idx (ix2 l 0)).toInt.toNat = l.val % 32) :
    Host.gather gather_S16384x32_S128x1_S16384x128_0_1_n_n_1_1_163841 x idx (ix2 i l) = x (ix2 i ⟨l.val % 32, Nat.mod_lt _ (by decide)⟩) := by
  rw [take_col]
  refine congrArg x (congrArg (ix2 i) (Fin.ext ?_))
  show min (idx (ix2 l 0)).toInt.toNat 31 = l.val % 32
  rw [h l]
  omega

/-- A table times a row of signs that is minus one in the first half of every head of 64 lanes and one in the second. -/
theorem signed_at (x : FVec Ideal S16384x128 .f32) (b : IVec S128 1) (i : Fin 16384) (l : Fin 128)
    (h : ∀ l : Fin 128, b (ix1 l) = if l.val % 64 < 32 then 1#1 else 0#1) :
    mulf x (broadcastInDim S16384x128 ![0, 1] bcast_S1x128_S16384x128_0_1 (broadcastInDim S1x128 ![1] bcast_S128_S1x128_1
        (select b (broadcastInDim S128 ![] bcast_S_S128 (constant (F := Ideal) S_ .f32 0xBF800000#32))
          (broadcastInDim S128 ![] bcast_S_S128 (constant (F := Ideal) S_ .f32 0x3F800000#32))))) (ix2 i l)
      = x (ix2 i l) * (if l.val % 64 < 32 then -1 else 1 : EReal) := by
  pointwise
  rw [h l]
  rw [Cert.Rope.neg_one]
  split <;> simp [Scalar.select]

/-- The cosine table the region reads: lane `l` of row `i` at the angle of that row and pair `l % 32`. -/
theorem V_cos (c : Dev nD) (i : Fin 16384) (l : Fin 128) :
    V m c main_v59 (ix2 i l) = Ideal.cos (Cert.Rope.angle 0x42000000#32 i (l % 32)) := by
  show StableHlo.after (List.flatten _) _ _ _ = _
  simp only [List.flatten_cons, List.flatten_nil, List.append_nil]
  after_reads_simp
  refine (taken_at _ _ i l ?_).trans ?_
  · decide +kernel
  · pointwise
    rfl

/-- The sine table the region reads: the same angles, the sign turned in the first half of every head. -/
theorem V_sin (c : Dev nD) (i : Fin 16384) (l : Fin 128) :
    V m c main_v75 (ix2 i l) = Ideal.sin (Cert.Rope.angle 0x42000000#32 i (l % 32)) * (if l.val % 64 < 32 then -1 else 1) := by
  show StableHlo.after (List.flatten _) _ _ _ = _
  simp only [List.flatten_cons, List.flatten_nil, List.append_nil]
  after_reads_simp
  refine (signed_at _ _ i l ?_).trans ?_
  · decide +kernel
  · rw [taken_at _ _ i l (by decide +kernel)]
    pointwise
    rfl

/-- The block every window shows at a grid point, all points at once. -/
theorem idx : ∀ t : Fin cfg0.N,
    win0_0.index t = ![t.val / 2, 0] ∧ win0_1.index t = ![0, 6 + t.val % 2] ∧ win0_2.index t = ![t.val / 2, 0]
    ∧ win0_3.index t = ![t.val / 2, 0] ∧ win0_4.index t = ![t.val / 2, t.val % 2] ∧ t.val / 2 < 32 :=
  (by decide +kernel : ∀ t : Fin grid0.N, _)

/-- The row of the array under row `r` of point `t`'s blocks. -/
def row (t : Fin cfg0.N) (r : Fin 512) : Fin 16384 := ⟨t.val / 2 * 512 + r.val, by have := (idx t).2.2.2.2.2; omega⟩

/-- The row block, at an element. -/
theorem rows_at (c : Dev nD) (t : Fin cfg0.N) (r : Fin 512) (k : Fin 2048) :
    (show EReal from iblk m c 0 t (ix2 r k)) = m ((c : Thread nD τ).loc main_arg0) (ix2 (row t r) k) := by
  blk_simp [iblk, V_main_arg0, idx t]
  blk_ext [row, idx t]

/-- The weights' column block, at an element. -/
theorem cols_at (c : Dev nD) (t : Fin cfg0.N) (k : Fin 2048) (n : Fin 512) :
    (show EReal from X0_1 m c t (ix2 k n)) = m ((c : Thread nD τ).loc main_arg1) (ix2 k ⟨3072 + (t.val % 2 * 512 + n.val), by omega⟩) := by
  show (cfg0.win 1).fill _ _ _ _ = _
  unfold Pipeline.Window.fill
  rw [dif_pos (moved0_1 t _)]
  blk_simp [iblk, idx t]
  refine (V_w m c _).trans ?_
  blk_ext [idx t]

/-- The cosine table's row block, at an element. -/
theorem cos_at (c : Dev nD) (t : Fin cfg0.N) (r : Fin 512) (l : Fin 128) :
    (show EReal from iblk m c 2 t (ix2 r l)) = Ideal.cos (Cert.Rope.angle 0x42000000#32 (row t r) (l % 32)) := by
  refine Eq.trans ?_ (V_cos m c (row t r) l)
  blk_simp [iblk, idx t]
  blk_ext [row, idx t]

/-- The sine table's row block, at an element. -/
theorem sin_at (c : Dev nD) (t : Fin cfg0.N) (r : Fin 512) (l : Fin 128) :
    (show EReal from iblk m c 3 t (ix2 r l)) = Ideal.sin (Cert.Rope.angle 0x42000000#32 (row t r) (l % 32)) * (if l.val % 64 < 32 then -1 else 1) := by
  refine Eq.trans ?_ (V_sin m c (row t r) l)
  blk_simp [iblk, idx t]
  blk_ext [row, idx t]

/-- A column of the projection, read through the blocks. -/
theorem dot_at (c : Dev nD) (t : Fin cfg0.N) (r : Fin 512) (n : Fin 512) :
    (∑ k : Fin 2048, (show EReal from iblk m c 0 t (ix2 r k)) * (show EReal from X0_1 m c t (ix2 k n)))
      = Cert.IndexQueryRefIdeal.Turn.proj (m ((c : Thread nD τ).loc main_arg0)) (m ((c : Thread nD τ).loc main_arg1)) (row t r)
          (t.val % 2 * 512 + n.val) (by omega) := by
  refine Finset.sum_congr rfl fun k _ => ?_
  rw [rows_at, cols_at]

/-- An element after the turn is the reference's element: two heads from column `o` of the tile, row `r`, lane `l`. -/
theorem core (c : Dev nD) (t : Fin cfg0.N) (o : ℕ) (ho : o % 128 = 0) (ho' : o ≤ 384) (r : Fin 512) (l : Fin 128)
    (n n' : Fin 512) (hn : n.val = o + l.val) (hn' : n'.val = o + if l.val % 64 < 32 then (l.val + 128 - 96) % 128 else (l.val + 128 - 32) % 128)
    (j : S16384x1024.Idx) (hj0 : (j 0 : ℕ) = t.val / 2 * 512 + r.val) (hj1 : (j 1 : ℕ) = t.val % 2 * 512 + o + l.val) :
    (∑ k : Fin 2048, (show EReal from iblk m c 0 t (ix2 r k)) * (show EReal from X0_1 m c t (ix2 k n))) * (show EReal from iblk m c 2 t (ix2 r l))
        + (∑ k : Fin 2048, (show EReal from iblk m c 0 t (ix2 r k)) * (show EReal from X0_1 m c t (ix2 k n'))) * (show EReal from iblk m c 3 t (ix2 r l))
      = Cert.IndexQueryRefIdeal.Read.val_main_v35 (F := Ideal) (m ((c : Thread nD τ).loc main_arg0)) (m ((c : Thread nD τ).loc main_arg1)) j := by
  obtain ⟨q, hq⟩ : ∃ q : Fin 1024, q.val = t.val % 2 * 512 + o + l.val := ⟨⟨_, by omega⟩, rfl⟩
  have hj : j = ix2 (row t r) q := by
    funext a
    refine Fin.ext ?_
    match a with
    | ⟨0, _⟩ => exact hj0
    | ⟨1, _⟩ => exact hj1.trans hq.symm
  rw [dot_at, dot_at, cos_at, sin_at, hj]
  have e1 : t.val % 2 * 512 + n.val = q.val := by omega
  have e3 : l.val % 32 = q.val % 32 := by omega
  by_cases hl : l.val % 64 < 32
  · rw [Cert.IndexQueryRefIdeal.Turn.low_at _ _ _ _ (by omega), if_pos hl, Cert.Rope.turn_low]
    have e2 : t.val % 2 * 512 + n'.val = q.val + 32 := by rw [if_pos hl] at hn'; omega
    simp only [e1, e2, e3]
  · rw [Cert.IndexQueryRefIdeal.Turn.high_at _ _ _ _ (by omega), if_neg hl, mul_one]
    have e2 : t.val % 2 * 512 + n'.val = q.val - 32 := by rw [if_neg hl] at hn'; omega
    simp only [e1, e2, e3]

/-- The kernel's test of a lane: the lane's number modulo 64 is below 32, that is the lane lies in the first half of a
    head. The modulus is written as a remainder with its sign mended, by the divisor `d` and the same `e`. -/
theorem first_half (d e : BitVec 32) (hd : d = 64#32) (he : e = 64#32) (l : Fin 128) :
    IntOp.cmpi .slt
        (Scalar.select
          (IntOp.andi
            (IntOp.xori (IntOp.cmpi .slt (IntOp.remsi .vector (BitVec.ofNat 32 l.val) d) 0#32) (Scalar.cmpi .slt d 0#32))
            (IntOp.cmpi .ne (IntOp.remsi .vector (BitVec.ofNat 32 l.val) d) 0#32))
          (IntOp.addi (IntOp.remsi .vector (BitVec.ofNat 32 l.val) d) e)
          (IntOp.remsi .vector (BitVec.ofNat 32 l.val) d))
        32#32 = if l.val % 64 < 32 then 1#1 else 0#1 := by
  subst hd he
  revert l
  decide +kernel

/-- An element after the turn, as the kernel takes it: the partner's column by the test of the lane. -/
theorem core_select (c : Dev nD) (t : Fin cfg0.N) (o : ℕ) (ho : o % 128 = 0) (ho' : o ≤ 384) (r : Fin 512) (l : Fin 128)
    (b : BitVec 1) (hb : b = if l.val % 64 < 32 then 1#1 else 0#1)
    (n n1 n2 : Fin 512) (hn : n.val = o + l.val) (hn1 : n1.val = o + (l.val + 128 - 96) % 128)
    (hn2 : n2.val = o + (l.val + 128 - 32) % 128)
    (j : S16384x1024.Idx) (hj0 : (j 0 : ℕ) = t.val / 2 * 512 + r.val) (hj1 : (j 1 : ℕ) = t.val % 2 * 512 + o + l.val) :
    (∑ k : Fin 2048, (show EReal from iblk m c 0 t (ix2 r k)) * (show EReal from X0_1 m c t (ix2 k n))) * (show EReal from iblk m c 2 t (ix2 r l))
        + Scalar.select b
            (∑ k : Fin 2048, (show EReal from iblk m c 0 t (ix2 r k)) * (show EReal from X0_1 m c t (ix2 k n1)))
            (∑ k : Fin 2048, (show EReal from iblk m c 0 t (ix2 r k)) * (show EReal from X0_1 m c t (ix2 k n2)))
          * (show EReal from iblk m c 3 t (ix2 r l))
      = Cert.IndexQueryRefIdeal.Read.val_main_v35 (F := Ideal) (m ((c : Thread nD τ).loc main_arg0)) (m ((c : Thread nD τ).loc main_arg1)) j := by
  by_cases hl : l.val % 64 < 32
  · rw [if_pos hl] at hb
    subst hb
    refine Eq.trans ?_ (core m c t o ho ho' r l n n1 hn (by rw [if_pos hl]; exact hn1) j hj0 hj1)
    simp [Scalar.select]
  · rw [if_neg hl] at hb
    subst hb
    refine Eq.trans ?_ (core m c t o ho ho' r l n n2 hn (by rw [if_neg hl]; exact hn2) j hj0 hj1)
    simp [Scalar.select]

/-- The result array after the run. -/
theorem final (c : Dev nD) : (dats m 0 c).arrAt 4 cfg0.N
    = Cert.IndexQueryRefIdeal.Read.val_main_v35 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  canon_tiles x h
  · refine Eq.trans ?_ (core_select m c t 384 (by decide) (by decide) (x 0) (x 1) _
      (first_half (Scalar.select (Scalar.cmpi .eq 64#32 0#32) 1#32 64#32) (Scalar.select (Scalar.cmpi .eq 64#32 0#32) 1#32 64#32) (by decide) (by decide) (x 1))
      ⟨384 + x 1, by omega⟩ ⟨384 + (x 1 + 128 - 96) % 128, by omega⟩ ⟨384 + (x 1 + 128 - 32) % 128, by omega⟩ rfl rfl rfl _ ?_ ?_)
    · pointwise [k0_pay11, k0_pay1, k0_pay2, k0_pay3]
    all_goals (blk_simp [idx t] <;> try omega)
  · refine Eq.trans ?_ (core_select m c t 256 (by decide) (by decide) (x 0) (x 1) _
      (first_half (Scalar.select (Scalar.cmpi .eq 64#32 0#32) 1#32 64#32) 64#32 (by decide) (by decide) (x 1))
      ⟨256 + x 1, by omega⟩ ⟨256 + (x 1 + 128 - 96) % 128, by omega⟩ ⟨256 + (x 1 + 128 - 32) % 128, by omega⟩ rfl rfl rfl _ ?_ ?_)
    · pointwise [k0_pay10, k0_pay9, k0_pay8, k0_pay7, k0_pay1, k0_pay2, k0_pay3]
    all_goals (blk_simp [idx t] <;> try omega)
  · refine Eq.trans ?_ (core_select m c t 128 (by decide) (by decide) (x 0) (x 1) _
      (first_half (Scalar.select (Scalar.cmpi .eq 64#32 0#32) 1#32 64#32) (Scalar.select (Scalar.cmpi .eq 64#32 0#32) 1#32 64#32) (by decide) (by decide) (x 1))
      ⟨128 + x 1, by omega⟩ ⟨128 + (x 1 + 128 - 96) % 128, by omega⟩ ⟨128 + (x 1 + 128 - 32) % 128, by omega⟩ rfl rfl rfl _ ?_ ?_)
    · pointwise [k0_pay6, k0_pay5, k0_pay1, k0_pay2, k0_pay3]
    all_goals (blk_simp [idx t] <;> try omega)
  · refine Eq.trans ?_ (core_select m c t 0 (by decide) (by decide) (x 0) (x 1) _
      (first_half (Scalar.select (Scalar.cmpi .eq 64#32 0#32) 1#32 64#32) (Scalar.select (Scalar.cmpi .eq 64#32 0#32) 1#32 64#32) (by decide) (by decide) (x 1))
      ⟨x 1, by omega⟩ ⟨(x 1 + 128 - 96) % 128, by omega⟩ ⟨(x 1 + 128 - 32) % 128, by omega⟩ (Nat.zero_add _).symm (Nat.zero_add _).symm (Nat.zero_add _).symm _ ?_ ?_)
    · pointwise [k0_pay4, k0_pay1, k0_pay2, k0_pay3]
    all_goals (blk_simp [idx t] <;> try omega)

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v77)
        = Cert.IndexQueryRefIdeal.Read.val_main_v35 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Cert.IndexQueryIdeal.Value.run_blocks m ρ)

end Cert.IndexQueryIdeal.Turn

end
-- ==== Proof.IndexKeyValue.lean ====
/- The indexer's key with the weights of its heads: the last eighty columns of the attention's input projection. The first
   64 are one head, turned by rotary positions; the other 16 are the heads' weights, multiplied by a constant. The kernel
   fills rows of 128 lanes: the weights' columns are padded with zeros, the cosine table holds the constant in the lanes
   past the head and the sine table zero there, so one multiplication and one addition serve both. The host takes the two
   results out of the array; they are the reference's terms. -/
module

public import proofs.«01_k».proof.Proof.Gen.IndexKeyIdeal.Frame
public import proofs.«01_k».proof.Proof.Gen.IndexKeyIdeal.Skeleton
public import proofs.«01_k».proof.Proof.Gen.IndexKeyRefIdeal.Read
public import proofs.«01_k».proof.Proof.Gen.IndexKeyRefIdeal.Run
public import proofs.«01_k».proof.Proof.Rope
public import Idealize.ShloMosaic.Lib.Pipeline.ValueKit
public import Idealize.ShloMosaic.Lib.Pointwise
public import Idealize.ShloMosaic.Lib.StableHlo.RunRead
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference at an element -/

namespace Cert.IndexKeyRefIdeal.Turn

open Cert.IndexKeyRefIdeal Cert.IndexKeyRefIdeal.Gen Cert.IndexKeyRefIdeal.Read

variable (x0 : (⟨S16384x2048, .bf16⟩ : BufTy).Contents (Elt Ideal)) (x1 : (⟨S2048x4176, .f32⟩ : BufTy).Contents (Elt Ideal))

/-- The projection's element in column `q` of row `i`. -/
def proj (i : Fin 16384) (q : ℕ) (hq : q < 80) : EReal :=
  ∑ k : Fin 2048, x0 (ix2 i k) * x1 (ix2 k ⟨4096 + q, by omega⟩)

/-- The angles, at an element. -/
theorem angle_at (i : Fin 16384) (k : Fin 32) :
    (val_main_v17 (F := Ideal) (ix2 i k) : Elt Ideal .f32) = Cert.Rope.angle 0x42000000#32 i k := by
  unfold val_main_v17 val_main_v16 val_main_v15 val_main_v14 val_main_v13 val_main_v12 val_main_v11 val_main_v10 val_main_v9 val_main_cst_0
    val_main_v8 val_main_v7 val_main_cst val_main_v6 val_main_v5
  pointwise
  rfl

/-- The projection at an element. -/
theorem proj_at (i : Fin 16384) (q : Fin 80) :
    (val_main_v2 (F := Ideal) x0 x1 (ix2 i q) : Elt Ideal .f32) = proj x0 x1 i q.val q.isLt := by
  unfold val_main_v2 val_main_v1 val_main_v0
  pointwise
  rfl

/-- The key in the first half of the head. -/
theorem low_at (i : Fin 16384) (q : Fin 64) (hq : q.val < 32) :
    (val_main_v35 (F := Ideal) x0 x1 (ix2 i q) : Elt Ideal .bf16)
      = proj x0 x1 i q.val (by omega) * Ideal.cos (Cert.Rope.angle 0x42000000#32 i (q.val % 32))
        - proj x0 x1 i (q.val + 32) (by omega) * Ideal.sin (Cert.Rope.angle 0x42000000#32 i (q.val % 32)) := by
  have ha := fun k => angle_at i k
  have hp := fun l => proj_at x0 x1 i l
  unfold val_main_v35 val_main_v31 val_main_v30 val_main_v29 val_main_v28 val_main_v27
    val_main_v26 val_main_v25 val_main_v24 val_main_v23 val_main_v22 val_main_v21 val_main_v20 val_main_v19 val_main_v18 val_main_v4 val_main_v3
  revert ha hp
  generalize val_main_v17 (F := Ideal) = A
  generalize val_main_v2 (F := Ideal) x0 x1 = P
  intro ha hp
  pointwise
  rw [dif_pos hq]
  simp only [ha, hp]
  have e3 : q.val % 32 = q.val := by omega
  simp only [e3, Nat.add_comm 32]

/-- The key in the second half of the head. -/
theorem high_at (i : Fin 16384) (q : Fin 64) (hq : ¬ q.val < 32) :
    (val_main_v35 (F := Ideal) x0 x1 (ix2 i q) : Elt Ideal .bf16)
      = proj x0 x1 i q.val (by omega) * Ideal.cos (Cert.Rope.angle 0x42000000#32 i (q.val % 32))
        + proj x0 x1 i (q.val - 32) (by omega) * Ideal.sin (Cert.Rope.angle 0x42000000#32 i (q.val % 32)) := by
  have ha := fun k => angle_at i k
  have hp := fun l => proj_at x0 x1 i l
  unfold val_main_v35 val_main_v31 val_main_v30 val_main_v29 val_main_v28 val_main_v27
    val_main_v26 val_main_v25 val_main_v24 val_main_v23 val_main_v22 val_main_v21 val_main_v20 val_main_v19 val_main_v18 val_main_v4 val_main_v3
  revert ha hp
  generalize val_main_v17 (F := Ideal) = A
  generalize val_main_v2 (F := Ideal) x0 x1 = P
  intro ha hp
  pointwise
  rw [dif_neg hq]
  simp only [ha, hp]
  have e1 : 32 + (q.val - 32) = q.val := by omega
  have e3 : q.val % 32 = q.val - 32 := by omega
  simp only [e1, e3]

/-- The weights of the heads at an element. -/
theorem weight_at (h : Fin 16) (i : Fin 16384) :
    (val_main_v38 (F := Ideal) x0 x1 (ix2 h i) : Elt Ideal .f32)
      = proj x0 x1 i (64 + h.val) (by omega) * Ideal.ofBits .f32 0x3E800000#32 * Ideal.ofBits .f32 0x3E000000#32 := by
  have hp := fun l => proj_at x0 x1 i l
  unfold val_main_v38 val_main_v37 val_main_v36 val_main_v34 val_main_v33 val_main_v32 val_main_cst_1 val_main_cst_2
  revert hp
  generalize val_main_v2 (F := Ideal) x0 x1 = P
  intro hp
  pointwise
  simp only [hp]

end Cert.IndexKeyRefIdeal.Turn

/-! ## The kernel -/

namespace Cert.IndexKeyIdeal.Turn

open Cert.IndexKeyIdeal Cert.IndexKeyIdeal.Gen

variable (m : (ℓ : Loc nD τ sig) → Buf (Elt Ideal) ℓ)

/-- A quarter times an eighth is a thirty-second, by their bits. -/
theorem scales : Ideal.ofBits .f32 0x3E800000#32 * Ideal.ofBits .f32 0x3E000000#32 = Ideal.ofBits .f32 0x3D000000#32 := by
  simp [Ideal.ofBits, Ideal.ieee, -EReal.coe_mul, -EReal.coe_neg]
  rw [← EReal.coe_mul]
  norm_num

/-- The bits of zero. -/
theorem zero_bits : Ideal.ofBits .f32 0x00000000#32 = 0 := by
  simp [Ideal.ofBits, Ideal.ieee]

/-- Columns padded with more columns, at an element of the first. -/
theorem padded_at (x : FVec Ideal S2048x80 .bf16) (z : FVec Ideal S_ .bf16) (k : Fin 2048) (q : Fin 128) (hq : q.val < 80) :
    pad S2048x128 ![0, 0] ![0, 48] ![0, 0] x z pads_S2048x80_S2048x128_000_0480 h_S_ (ix2 k q) = x (ix2 k (⟨q.val, hq⟩ : Fin 80)) := by
  refine pad_apply_of_inside _ _ _ _ _ _ _ (ix2 k q) (ix2 k (⟨q.val, hq⟩ : Fin 80)) fun a => ?_
  match a with
  | ⟨0, _⟩ => show k.val = 0 + k.val * (0 + 1); omega
  | ⟨1, _⟩ => show q.val = 0 + q.val * (0 + 1); omega

/-- The weights the region reads, in the columns that are not padding. -/
theorem V_w (c : Dev nD) (k : Fin 2048) (q : Fin 128) (hq : q.val < 80) :
    V m c main_v78 (ix2 k q) = m ((c : Thread nD τ).loc main_arg1) (ix2 k ⟨4096 + q.val, by omega⟩) := by
  show StableHlo.after (List.flatten _) _ _ _ = _
  simp only [List.flatten_cons, List.flatten_nil, List.append_nil]
  after_reads_simp
  simp -implicitDefEqProofs only [StableHlo.TRef.toBuf, StableHlo.TRef.ofBuf, cast_cast, cast_eq]
  refine (padded_at _ _ k q hq).trans ?_
  pointwise

/-- A column taken by its number, at an index. -/
theorem take_col {α : Type} (x : S16384x32.Idx → α) (idx : IVec S128x1 32) (y : S16384x128.Idx) :
    Host.gather gather_S16384x32_S128x1_S16384x128_0_1_n_n_1_1_163841 x idx y
      = x (ix2 (y 0) ⟨min (idx (ix2 (y 1) 0)).toInt.toNat 31, by omega⟩) := by
  unfold Host.gather
  refine congrArg x (funext fun a => Fin.ext ?_)
  show (gather_S16384x32_S128x1_S16384x128_0_1_n_n_1_1_163841).start y idx a + (gather_S16384x32_S128x1_S16384x128_0_1_n_n_1_1_163841).batchCoord y a + (gather_S16384x32_S128x1_S16384x128_0_1_n_n_1_1_163841).offCoord y a = _
  rw [GatherDims.batchCoord_eq_zero _ _ _ List.not_mem_nil]
  have h01 : a = 1 ∨ a = 0 := by
    match a with
    | ⟨0, _⟩ => exact .inr rfl
    | ⟨1, _⟩ => exact .inl rfl
  rcases h01 with rfl | rfl
  · rw [GatherDims.offCoord_eq_zero _ _ _ (fun h => ((GatherDims.mem_sKept _ _).mp h).1 (List.mem_singleton.mpr rfl))]
    unfold GatherDims.start
    rw [dif_pos (show (1 : Fin 2) ∈ (gather_S16384x32_S128x1_S16384x128_0_1_n_n_1_1_163841).startIndexMap from List.mem_singleton.mpr rfl)]
    have hsi : (gather_S16384x32_S128x1_S16384x128_0_1_n_n_1_1_163841).siIdx y ⟨List.idxOf (1 : Fin 2) (gather_S16384x32_S128x1_S16384x128_0_1_n_n_1_1_163841).startIndexMap,
        List.idxOf_lt_length_iff.2 (List.mem_singleton.mpr rfl)⟩ = ix2 (y 1) 0 := by
      funext b; refine Fin.ext ?_
      match b with
      | ⟨0, _⟩ => rfl
      | ⟨1, _⟩ => rfl
    exact congrArg (fun q => min (idx q).toInt.toNat 31) hsi
  · unfold GatherDims.start
    rw [dif_neg (show ¬ (0 : Fin 2) ∈ (gather_S16384x32_S128x1_S16384x128_0_1_n_n_1_1_163841).startIndexMap by decide)]
    exact (Nat.zero_add _).trans rfl

/-- Columns taken by a table that names column `l % 32` at lane `l`. -/
theorem taken_at {α : Type} (x : S16384x32.Idx → α) (idx : IVec S128x1 32) (i : Fin 16384) (l : Fin 128)
    (h : ∀ l : Fin 128, (idx (ix2 l 0)).toInt.toNat = l.val % 32) :
    Host.gather gather_S16384x32_S128x1_S16384x128_0_1_n_n_1_1_163841 x idx (ix2 i l) = x (ix2 i ⟨l.val % 32, Nat.mod_lt _ (by decide)⟩) := by
  rw [take_col]
  refine congrArg x (congrArg (ix2 i) (Fin.ext ?_))
  show min (idx (ix2 l 0)).toInt.toNat 31 = l.val % 32
  rw [h l]
  omega

/-- A table times a row of signs that is minus one in the first half of every head of 64 lanes and one in the second. -/
theorem signed_at (x : FVec Ideal S16384x128 .f32) (b : IVec S128 1) (i : Fin 16384) (l : Fin 128)
    (h : ∀ l : Fin 128, b (ix1 l) = if l.val % 64 < 32 then 1#1 else 0#1) :
    mulf x (broadcastInDim S16384x128 ![0, 1] bcast_S1x128_S16384x128_0_1 (broadcastInDim S1x128 ![1] bcast_S128_S1x128_1
        (select b (broadcastInDim S128 ![] bcast_S_S128 (constant (F := Ideal) S_ .f32 0xBF800000#32))
          (broadcastInDim S128 ![] bcast_S_S128 (constant (F := Ideal) S_ .f32 0x3F800000#32))))) (ix2 i l)
      = x (ix2 i l) * (if l.val % 64 < 32 then -1 else 1 : EReal) := by
  pointwise
  rw [h l]
  rw [Cert.Rope.neg_one]
  split <;> simp [Scalar.select]

/-- A table with the lanes past the head set to one value, at an element. -/
theorem where_at (x : FVec Ideal S16384x128 .f32) (b : IVec S1x128 1) (z : FVec Ideal S_ .f32) (i : Fin 16384) (l : Fin 128)
    (h : ∀ l : Fin 128, b (ix2 0 l) = if l.val < 64 then 1#1 else 0#1) :
    select (broadcastInDim S16384x128 ![0, 1] bcast_S1x128_S16384x128_0_1 b) x (broadcastInDim S16384x128 ![] bcast_S_S16384x128 z) (ix2 i l)
      = if l.val < 64 then x (ix2 i l) else z ix0 := by
  pointwise
  rw [h l]
  split <;> simp [Scalar.select]

/-- The cosine table the region reads: in the head the cosine of row `i` and pair `l % 32`, past it the weights' factor. -/
theorem V_cos (c : Dev nD) (i : Fin 16384) (l : Fin 128) :
    V m c main_v83 (ix2 i l) = if l.val < 64 then Ideal.cos (Cert.Rope.angle 0x42000000#32 i (l % 32)) else Ideal.ofBits .f32 0x3D000000#32 := by
  show StableHlo.after (List.flatten _) _ _ _ = _
  simp only [List.flatten_cons, List.flatten_nil, List.append_nil]
  after_reads_simp
  simp -implicitDefEqProofs only [StableHlo.TRef.toBuf, StableHlo.TRef.ofBuf, cast_cast, cast_eq]
  refine (where_at _ _ _ i l ?_).trans ?_
  · decide +kernel
  · refine if_congr Iff.rfl ?_ rfl
    refine (taken_at _ _ i l ?_).trans ?_
    · decide +kernel
    · pointwise
      rfl

/-- The sine table the region reads: in the head the same angles, the sign turned in its first half, past it zero. -/
theorem V_sin (c : Dev nD) (i : Fin 16384) (l : Fin 128) :
    V m c main_v87 (ix2 i l) = if l.val < 64 then Ideal.sin (Cert.Rope.angle 0x42000000#32 i (l % 32)) * (if l.val % 64 < 32 then -1 else 1) else 0 := by
  show StableHlo.after (List.flatten _) _ _ _ = _
  simp only [List.flatten_cons, List.flatten_nil, List.append_nil]
  after_reads_simp
  simp -implicitDefEqProofs only [StableHlo.TRef.toBuf, StableHlo.TRef.ofBuf, cast_cast, cast_eq]
  refine (where_at _ _ _ i l ?_).trans ?_
  · decide +kernel
  · refine if_congr Iff.rfl ?_ zero_bits
    refine (signed_at _ _ i l ?_).trans ?_
    · decide +kernel
    · rw [taken_at _ _ i l (by decide +kernel)]
      pointwise
      rfl

/-- The block every window shows at a grid point, all points at once. -/
theorem idx : ∀ t : Fin cfg0.N,
    win0_0.index t = ![t.val, 0] ∧ win0_1.index t = ![0, 0] ∧ win0_2.index t = ![t.val, 0]
    ∧ win0_3.index t = ![t.val, 0] ∧ win0_4.index t = ![t.val, 0] ∧ t.val < 32 :=
  (by decide +kernel : ∀ t : Fin grid0.N, _)

/-- The lane of a lane's partner: 32 to the right in the first half of a head, 32 to the left in the second. -/
def partner (l : Fin 128) : Fin 128 :=
  ⟨if l.val % 64 < 32 then (l.val + 128 - 96) % 128 else (l.val + 128 - 32) % 128, by split <;> omega⟩

/-- The array the kernel fills, of its rows, the weights it is given and its two tables. -/
def whole (a : FVec Ideal S16384x2048 .bf16) (w : FVec Ideal S2048x128 .bf16) (C S : FVec Ideal S16384x128 .f32) : FVec Ideal S16384x128 .f32 :=
  fun j => (show EReal from
    (∑ k : Fin 2048, (show EReal from a (ix2 (j 0) k)) * (show EReal from w (ix2 k (j 1)))) * (show EReal from C j)
      + (∑ k : Fin 2048, (show EReal from a (ix2 (j 0) k)) * (show EReal from w (ix2 k (partner (j 1))))) * (show EReal from S j))

/-- The kernel's test of a lane: the lane's number modulo 64 is below 32, that is the lane lies in the first half of a
    head. The modulus is written as a remainder with its sign mended, by the divisor `d` and the same `e`. -/
theorem first_half (d e : BitVec 32) (hd : d = 64#32) (he : e = 64#32) (l : Fin 128) :
    IntOp.cmpi .slt
        (Scalar.select
          (IntOp.andi
            (IntOp.xori (IntOp.cmpi .slt (IntOp.remsi .vector (BitVec.ofNat 32 l.val) d) 0#32) (Scalar.cmpi .slt d 0#32))
            (IntOp.cmpi .ne (IntOp.remsi .vector (BitVec.ofNat 32 l.val) d) 0#32))
          (IntOp.addi (IntOp.remsi .vector (BitVec.ofNat 32 l.val) d) e)
          (IntOp.remsi .vector (BitVec.ofNat 32 l.val) d))
        32#32 = if l.val % 64 < 32 then 1#1 else 0#1 := by
  subst hd he
  revert l
  decide +kernel

/-- The row of the array under row `r` of point `t`'s blocks. -/
def row (t : Fin cfg0.N) (r : Fin 512) : Fin 16384 := ⟨t.val * 512 + r.val, by have := (idx t).2.2.2.2.2; omega⟩

/-- The row block, at an element. -/
theorem rows_at (c : Dev nD) (t : Fin cfg0.N) (r : Fin 512) (k : Fin 2048) :
    (show EReal from iblk m c 0 t (ix2 r k)) = m ((c : Thread nD τ).loc main_arg0) (ix2 (row t r) k) := by
  blk_simp [iblk, V_main_arg0, idx t]
  blk_ext [row, idx t]

/-- The weights' block is the whole of them. -/
theorem cols_at (c : Dev nD) (t : Fin cfg0.N) (k : Fin 2048) (n : Fin 128) :
    (show EReal from iblk m c 1 t (ix2 k n)) = V m c main_v78 (ix2 k n) := by
  blk_simp [iblk, idx t]
  blk_ext [idx t]

/-- The cosine table's row block, at an element. -/
theorem cos_at (c : Dev nD) (t : Fin cfg0.N) (r : Fin 512) (l : Fin 128) :
    (show EReal from iblk m c 2 t (ix2 r l)) = V m c main_v83 (ix2 (row t r) l) := by
  blk_simp [iblk, idx t]
  blk_ext [row, idx t]

/-- The sine table's row block, at an element. -/
theorem sin_at (c : Dev nD) (t : Fin cfg0.N) (r : Fin 512) (l : Fin 128) :
    (show EReal from iblk m c 3 t (ix2 r l)) = V m c main_v87 (ix2 (row t r) l) := by
  blk_simp [iblk, idx t]
  blk_ext [row, idx t]

/-- An element after the turn, as the kernel takes it: the partner's column by the test of the lane. -/
theorem core (c : Dev nD) (t : Fin cfg0.N) (r : Fin 512) (l : Fin 128) (b : BitVec 1) (hb : b = if l.val % 64 < 32 then 1#1 else 0#1)
    (n1 n2 : Fin 128) (hn1 : n1.val = (l.val + 128 - 96) % 128) (hn2 : n2.val = (l.val + 128 - 32) % 128)
    (j : S16384x128.Idx) (hj0 : (j 0 : ℕ) = t.val * 512 + r.val) (hj1 : (j 1 : ℕ) = l.val) :
    (∑ k : Fin 2048, (show EReal from iblk m c 0 t (ix2 r k)) * (show EReal from iblk m c 1 t (ix2 k l))) * (show EReal from iblk m c 2 t (ix2 r l))
        + Scalar.select b
            (∑ k : Fin 2048, (show EReal from iblk m c 0 t (ix2 r k)) * (show EReal from iblk m c 1 t (ix2 k n1)))
            (∑ k : Fin 2048, (show EReal from iblk m c 0 t (ix2 r k)) * (show EReal from iblk m c 1 t (ix2 k n2)))
          * (show EReal from iblk m c 3 t (ix2 r l))
      = whole (m ((c : Thread nD τ).loc main_arg0)) (V m c main_v78) (V m c main_v83) (V m c main_v87) j := by
  have hj : j = ix2 (row t r) l := by
    funext a
    refine Fin.ext ?_
    match a with
    | ⟨0, _⟩ => exact hj0
    | ⟨1, _⟩ => exact hj1
  subst hj
  rw [cos_at, sin_at]
  simp only [rows_at, cols_at]
  by_cases hl : l.val % 64 < 32
  · have hp : partner l = n1 := Fin.ext ((if_pos hl).trans hn1.symm)
    rw [if_pos hl] at hb
    subst hb
    show _ = _ + (∑ k : Fin 2048, _ * (show EReal from V m c main_v78 (ix2 k (partner l)))) * _
    rw [hp]
    simp only [Scalar.select]
    rfl
  · have hp : partner l = n2 := Fin.ext ((if_neg hl).trans hn2.symm)
    rw [if_neg hl] at hb
    subst hb
    show _ = _ + (∑ k : Fin 2048, _ * (show EReal from V m c main_v78 (ix2 k (partner l)))) * _
    rw [hp]
    simp only [Scalar.select]
    rfl

/-- The array after the region. -/
theorem final (c : Dev nD) : (dats m 0 c).arrAt 4 cfg0.N
    = whole (m ((c : Thread nD τ).loc main_arg0)) (V m c main_v78) (V m c main_v83) (V m c main_v87) := by
  refine (dats m 0 c).arrAt_eq_of_covers 4 _ (by decide +kernel) fun t _ y => ?_
  blk_simp
  rw [after0_4]
  frame_out
  refine Eq.trans ?_ (core m c t (y 0) (y 1) _
      (first_half (Scalar.select (Scalar.cmpi .eq 64#32 0#32) 1#32 64#32) (Scalar.select (Scalar.cmpi .eq 64#32 0#32) 1#32 64#32) (by decide) (by decide) (y 1))
      ⟨(y 1 + 128 - 96) % 128, by omega⟩ ⟨(y 1 + 128 - 32) % 128, by omega⟩ rfl rfl _ ?_ ?_)
  · pointwise [k0_pay1]
  all_goals (blk_simp [idx t] <;> try omega)

/-- The array in a column that is not padding, with the sums over the weights' own columns. -/
theorem dot_eq (c : Dev nD) (i : Fin 16384) (q : Fin 128) (hq : q.val < 80) :
    (∑ k : Fin 2048, (show EReal from m ((c : Thread nD τ).loc main_arg0) (ix2 i k)) * (show EReal from V m c main_v78 (ix2 k q)))
      = Cert.IndexKeyRefIdeal.Turn.proj (m ((c : Thread nD τ).loc main_arg0)) (m ((c : Thread nD τ).loc main_arg1)) i q.val hq := by
  refine Finset.sum_congr rfl fun k _ => ?_
  rw [V_w m c k q hq]

/-- A key's element of the array is the reference's. -/
theorem key_eq (c : Dev nD) (i : Fin 16384) (q : Fin 64) :
    whole (m ((c : Thread nD τ).loc main_arg0)) (V m c main_v78) (V m c main_v83) (V m c main_v87) (ix2 i (⟨q.val, by omega⟩ : Fin 128))
      = Cert.IndexKeyRefIdeal.Read.val_main_v35 (F := Ideal) (m ((c : Thread nD τ).loc main_arg0)) (m ((c : Thread nD τ).loc main_arg1)) (ix2 i q) := by
  have hq := q.isLt
  obtain ⟨l, hl⟩ : ∃ l : Fin 128, l.val = q.val := ⟨⟨q.val, by omega⟩, rfl⟩
  have e : (⟨q.val, by omega⟩ : Fin 128) = l := Fin.ext hl.symm
  rw [e]
  show (∑ k : Fin 2048, (show EReal from m ((c : Thread nD τ).loc main_arg0) (ix2 i k)) * (show EReal from V m c main_v78 (ix2 k l)))
      * (show EReal from V m c main_v83 (ix2 i l))
    + (∑ k : Fin 2048, (show EReal from m ((c : Thread nD τ).loc main_arg0) (ix2 i k)) * (show EReal from V m c main_v78 (ix2 k (partner l))))
      * (show EReal from V m c main_v87 (ix2 i l)) = _
  have hp : (partner l).val = if l.val % 64 < 32 then (l.val + 128 - 96) % 128 else (l.val + 128 - 32) % 128 := rfl
  by_cases h : q.val < 32
  · rw [if_pos (by omega)] at hp
    rw [Cert.IndexKeyRefIdeal.Turn.low_at _ _ _ _ h, dot_eq m c i l (by omega), dot_eq m c i (partner l) (by omega), V_cos, V_sin,
      if_pos (by omega), if_pos (by omega), if_pos (by omega), Cert.Rope.turn_low]
    have e2 : (partner l).val = q.val + 32 := by omega
    simp only [hl, e2]
  · rw [if_neg (by omega)] at hp
    rw [Cert.IndexKeyRefIdeal.Turn.high_at _ _ _ _ h, dot_eq m c i l (by omega), dot_eq m c i (partner l) (by omega), V_cos, V_sin,
      if_pos (by omega), if_pos (by omega), if_neg (by omega), mul_one]
    have e2 : (partner l).val = q.val - 32 := by omega
    simp only [hl, e2]

/-- A weight's element of the array is the reference's: the partner's column counts for nothing. -/
theorem weight_eq (c : Dev nD) (i : Fin 16384) (h : Fin 16) :
    whole (m ((c : Thread nD τ).loc main_arg0)) (V m c main_v78) (V m c main_v83) (V m c main_v87) (ix2 i (⟨64 + h.val, by omega⟩ : Fin 128))
      = Cert.IndexKeyRefIdeal.Read.val_main_v38 (F := Ideal) (m ((c : Thread nD τ).loc main_arg0)) (m ((c : Thread nD τ).loc main_arg1)) (ix2 h i) := by
  have hh := h.isLt
  obtain ⟨l, hl⟩ : ∃ l : Fin 128, l.val = 64 + h.val := ⟨⟨64 + h.val, by omega⟩, rfl⟩
  have e : (⟨64 + h.val, by omega⟩ : Fin 128) = l := Fin.ext hl.symm
  rw [e]
  show (∑ k : Fin 2048, (show EReal from m ((c : Thread nD τ).loc main_arg0) (ix2 i k)) * (show EReal from V m c main_v78 (ix2 k l)))
      * (show EReal from V m c main_v83 (ix2 i l))
    + (∑ k : Fin 2048, (show EReal from m ((c : Thread nD τ).loc main_arg0) (ix2 i k)) * (show EReal from V m c main_v78 (ix2 k (partner l))))
      * (show EReal from V m c main_v87 (ix2 i l)) = _
  rw [Cert.IndexKeyRefIdeal.Turn.weight_at, dot_eq m c i l (by omega), V_cos, V_sin, if_neg (by omega), if_neg (by omega), mul_zero, add_zero,
    mul_assoc, scales]
  simp only [hl]

/-- The array at the region's end, as the host operations after it find it. -/
theorem left (c : Dev nD) : Pipeline.withArrays (cfgs 0).spec c (V0 m c) (fun w => (dats m 0 c).arrAt w (cfgs 0).N) (Proc.tc.devRef main_v88)
    = whole (m ((c : Thread nD τ).loc main_arg0)) (V m c main_v78) (V m c main_v83) (V m c main_v87) :=
  (Pipeline.withArrays_arr (cfgs 0).spec launch0.win.arr_inj c (V0 m c) (fun w => (dats m 0 c).arrAt w (cfgs 0).N) 4).trans (final m c)

/-- Columns 0 to 63 of an array, at an element. -/
theorem head_at (x : FVec Ideal S16384x128 .f32) (i : Fin 16384) (q : Fin 64) :
    truncf .bf16 (extractStridedSlice S16384x64 ![0, 0] x slices_S16384x128_S16384x64_0_0) bitsLt_bf16_f32 (ix2 i q)
      = x (ix2 i (⟨q.val, by omega⟩ : Fin 128)) := by
  pointwise

/-- Columns 64 to 79 of an array transposed, at an element. -/
theorem tail_at (x : FVec Ideal S16384x128 .f32) (h : Fin 16) (i : Fin 16384) :
    transpose S16x16384 [1, 0] (extractStridedSlice S16384x16 ![0, 64] x slices_S16384x128_S16384x16_0_64) transposes_S16384x16_S16x16384_1_0 (ix2 h i)
      = x (ix2 i (⟨64 + h.val, by omega⟩ : Fin 128)) := by
  pointwise

/-- The key the host takes out of the array is the reference's. -/
theorem taken_key (c : Dev nD) : Pipeline.afterTail₀ cfgs (dats m) 0 (V0 m) [hostOps1] c main_v90
    = Cert.IndexKeyRefIdeal.Read.val_main_v35 (F := Ideal) (m ((c : Thread nD τ).loc main_arg0)) (m ((c : Thread nD τ).loc main_arg1)) := by
  have h := left m c
  unfold Pipeline.afterTail₀
  simp only [List.flatten_cons, List.flatten_nil, List.append_nil]
  after_reads_simp
  rw [h]
  funext i
  obtain ⟨r, q, rfl⟩ : ∃ (r : Fin 16384) (q : Fin 64), i = ix2 r q := ⟨i 0, i 1, by funext a; match a with | ⟨0, _⟩ => rfl | ⟨1, _⟩ => rfl⟩
  exact (head_at _ r q).trans (key_eq m c r q)

/-- The heads' weights the host takes out of the array are the reference's. -/
theorem taken_weight (c : Dev nD) : Pipeline.afterTail₀ cfgs (dats m) 0 (V0 m) [hostOps1] c main_v92
    = Cert.IndexKeyRefIdeal.Read.val_main_v38 (F := Ideal) (m ((c : Thread nD τ).loc main_arg0)) (m ((c : Thread nD τ).loc main_arg1)) := by
  have h := left m c
  unfold Pipeline.afterTail₀
  simp only [List.flatten_cons, List.flatten_nil, List.append_nil]
  after_reads_simp
  rw [h]
  funext i
  obtain ⟨q, r, rfl⟩ : ∃ (q : Fin 16) (r : Fin 16384), i = ix2 q r := ⟨i 0, i 1, by funext a; match a with | ⟨0, _⟩ => rfl | ⟨1, _⟩ => rfl⟩
  exact (tail_at _ q r).trans (weight_eq m c r q)

/-- The kernel run, its results the reference's terms of the arguments. -/
theorem run (ρ : Dev nD → PrngReg) :
    θ_run defs (onTc (τ := τ) (main (F := Ideal))) ⟨m, fun _ => 0, ρ⟩ fun r => ∀ c : Dev nD,
      r.2.mem ((c : Thread nD τ).loc main_v90)
        = Cert.IndexKeyRefIdeal.Read.val_main_v35 (F := Ideal) (m ((c : Thread nD τ).loc main_arg0)) (m ((c : Thread nD τ).loc main_arg1))
      ∧ r.2.mem ((c : Thread nD τ).loc main_v92)
        = Cert.IndexKeyRefIdeal.Read.val_main_v38 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  run_from Cert.IndexKeyIdeal.Gen.run_main m ρ
  · exact taken_key m c
  · exact taken_weight m c
  · exact W_main_arg1 m (dats m) c

end Cert.IndexKeyIdeal.Turn

end
-- ==== Proof.NormModValue.lean ====
/- A mixer's input: the root-mean-square norm of the residual stream, scaled and shifted. What the tiled kernel leaves in
   its result array is the reference's term. One grid point works on 512 whole rows; the row blocks cover the array. -/
module

public import proofs.«01_k».proof.Proof.Gen.NormModIdeal.Value
public import proofs.«01_k».proof.Proof.Gen.NormModRefIdeal.Read
public import proofs.«01_k».proof.Proof.Gen.NormModRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormModIdeal.Rows

open Cert.NormModIdeal Cert.NormModIdeal.Gen

variable (m : (ℓ : Loc nD τ sig) → Buf (Elt Ideal) ℓ)

/-- The block every window shows at a grid point, all points at once. -/
theorem idx : ∀ t : Fin cfg0.N,
    win0_0.index t = ![t.val, 0] ∧ win0_1.index t = ![0, 0] ∧ win0_2.index t = ![0, 0] ∧ win0_3.index t = ![0, 0]
    ∧ win0_4.index t = ![t.val, 0] ∧ t.val < 32 :=
  (by decide +kernel : ∀ t : Fin grid0.N, _)

/-- The norm's weights the region reads: the argument laid out as one row. -/
theorem V_v0 (c : Dev nD) (i : S1x2048.Idx) : V m c main_v0 i = m ((c : Thread nD τ).loc main_arg1) (ix1 (i 1)) := by
  entry_read
  pointwise

/-- The scale the region reads: the argument laid out as one row. -/
theorem V_v1 (c : Dev nD) (i : S1x2048.Idx) : V m c main_v1 i = m ((c : Thread nD τ).loc main_arg2) (ix1 (i 1)) := by
  entry_read
  pointwise

/-- The shift the region reads: the argument laid out as one row. -/
theorem V_v2 (c : Dev nD) (i : S1x2048.Idx) : V m c main_v2 i = m ((c : Thread nD τ).loc main_arg3) (ix1 (i 1)) := by
  entry_read
  pointwise

/-- One stored element is the reference's element at the place the block puts it. -/
theorem point (c : Dev nD) (t : Fin cfg0.N) (y) :
    k0_pay1 (iblk m c 0 t) (iblk m c 1 t) (iblk m c 2 t) (iblk m c 3 t) y
      = Cert.NormModRefIdeal.Read.val_main_v21 (F := Ideal) (m ((c : Thread nD τ).loc main_arg0)) (m ((c : Thread nD τ).loc main_arg1))
          (m ((c : Thread nD τ).loc main_arg2)) (m ((c : Thread nD τ).loc main_arg3)) (((cfg0.win 4).blk t).view.emb y) := by
  rw [← Cert.NormModRefIdeal.Read.val_main_v21_eq]
  pointwise [k0_pay1]
  blk_simp [iblk, V_main_arg0, V_v0, V_v1, V_v2, idx t]
  blk_point [iblk, V_main_arg0, V_v0, V_v1, V_v2, idx t]
  all_goals first | refine (V_v0 m c _).trans ?_ | refine (V_v1 m c _).trans ?_ | refine (V_v2 m c _).trans ?_
  all_goals blk_ext [idx t]

/-- The result array after the run. -/
theorem final (c : Dev nD) : (dats m 0 c).arrAt 4 cfg0.N
    = Cert.NormModRefIdeal.Read.val_main_v21 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v3)
        = Cert.NormModRefIdeal.Read.val_main_v21 (F := Ideal) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.NormModIdeal.Value.run_blocks m ρ)

end Cert.NormModIdeal.Rows

end
-- ==== Proof.AdaModValue.lean ====
/- The layers' scales, shifts and gates from the condition: one row, silu of the condition, multiplied by each layer's
   weights and shifted. The kernel works on eight rows of which the first is the condition, 768 columns at a point, and
   the host takes the first row afterwards; what it takes is the reference's term. -/
module

public import proofs.«01_k».proof.Proof.Gen.AdaModIdeal.Frame
public import proofs.«01_k».proof.Proof.Gen.AdaModRefIdeal.Read
public import proofs.«01_k».proof.Proof.Gen.AdaModRefIdeal.Run
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.AdaModIdeal.Tiles

open Cert.AdaModIdeal Cert.AdaModIdeal.Gen
open Idealize.ShloMosaic.Routing

variable (m : (ℓ : Loc nD τ sig) → Buf (Elt Ideal) ℓ)

/-- The block every window shows at a grid point, all points at once. -/
theorem idx : ∀ t : Fin cfg0.N,
    win0_0.index t = ![0, 0] ∧ win0_1.index t = ![t.val / 16, 0, t.val % 16] ∧ win0_2.index t = ![t.val / 16, 0, t.val % 16]
    ∧ win0_3.index t = ![t.val / 16, 0, t.val % 16] ∧ t.val / 16 < 2 :=
  (by decide +kernel : ∀ t : Fin grid0.N, _)

/-- Update `w'` of a row set at the one index word lands at `(e, w)` exactly when `w` is `w'` and `e` is the word's row. -/
theorem lands_row {A N : Nat} (d : ScatterDims (shape2 N A) (shape1 1) (shape1 A)) (hiw : d.insertedWindowDims = [0]) (hsd : d.scatterDimsToOperandDims = [0])
    (idx : IVec (shape1 1) 32) (k : Fin N) (hidx : (idx (ValueIdx.ix1 0)).toInt = (k.val : Int))
    (w' w : Fin A) (e : Fin N) : d.resultIdx? (ValueIdx.ix1 w') idx = some (ValueIdx.ix2 e w) ↔ w' = w ∧ e = k := by
  have hm : (0 : Fin 2) ∈ d.scatterDimsToOperandDims := by rw [hsd]; exact List.mem_singleton.2 rfl
  have hkept : d.sKept = [1] := by
    show (shape2 N A).kept d.insertedWindowDims = _
    rw [hiw]
    rfl
  have hwin0 : d.window (ValueIdx.ix1 w') 0 = 0 := by
    unfold ScatterDims.window
    rw [dif_neg fun h => (of_decide_eq_true (List.mem_filter.1 h).2) (by rw [hiw]; exact List.mem_singleton.2 rfl)]
  have hwin1 : d.window (ValueIdx.ix1 w') 1 = w'.val := by
    unfold ScatterDims.window
    rw [dif_pos (by rw [hkept]; exact List.mem_singleton.2 rfl)]
    have q : ∀ X : Fin 1, (ValueIdx.ix1 w' X).val = w'.val := fun X => by
      obtain rfl : X = 0 := Subsingleton.elim _ _
      rfl
    exact q _
  have hstart1 : d.start (ValueIdx.ix1 w') idx 1 = 0 := by
    unfold ScatterDims.start
    rw [dif_neg fun h => by rw [hsd] at h; exact absurd (List.mem_singleton.1 h) (by decide : (1 : Fin 2) ≠ 0)]
  have hstart0 : d.start (ValueIdx.ix1 w') idx 0 = (k.val : Int) := by
    unfold ScatterDims.start
    rw [dif_pos hm]
    have hsi : d.siIdx (ValueIdx.ix1 w') ⟨d.scatterDimsToOperandDims.idxOf 0, List.idxOf_lt_length_iff.2 hm⟩ = ValueIdx.ix1 (0 : Fin 1) := by
      funext b'
      match b' with
      | ⟨0, _⟩ => exact Subsingleton.elim (α := Fin 1) _ _
    rw [hsi, hidx]
  rw [Fin.ext_iff, Fin.ext_iff, resultIdx?_ix2, hstart0, hwin0, hstart1, hwin1]
  omega

/-- The row set reads the update in its own row. -/
theorem scatter_row {α : Type} {A N : Nat} (d : ScatterDims (shape2 N A) (shape1 1) (shape1 A)) (hiw : d.insertedWindowDims = [0])
    (hsd : d.scatterDimsToOperandDims = [0]) (x0 : (shape2 N A).Idx → α) (idx : IVec (shape1 1) 32) (upd : (shape1 A).Idx → α)
    (k : Fin N) (hidx : (idx (ValueIdx.ix1 0)).toInt = (k.val : Int)) (w : Fin A) :
    Host.scatter d (fun _ b => b) x0 idx upd (ValueIdx.ix2 k w) = upd (ValueIdx.ix1 w) := by
  have lands : ∀ j : (shape1 A).Idx, d.resultIdx? j idx = some (ValueIdx.ix2 k w) → j 0 = w := fun j hj =>
    ((lands_row d hiw hsd idx k hidx (j 0) w k).1 ((congrArg (fun t => d.resultIdx? t idx) (ValueIdx.eq_ix1 j).symm).trans hj)).1
  exact scatter_set_hit d x0 idx upd _ _ (fun j hj => (congrArg upd (ValueIdx.eq_ix1 j)).trans (congrArg (fun t => upd (ValueIdx.ix1 t)) (lands j hj))) (ValueIdx.ix1 w)
    ((lands_row d hiw hsd idx k hidx w w k).2 ⟨rfl, rfl⟩)

/-- The first of the eight rows the region reads is the condition. -/
theorem V_v3 (c : Dev nD) (k : Fin 2048) : V m c main_v3 (ix2 0 k) = m ((c : Thread nD τ).loc main_arg0) (ix2 0 k) := by
  show StableHlo.after (List.flatten _) _ _ _ = _
  simp only [List.flatten_cons, List.flatten_nil, List.append_nil]
  after_reads_simp
  refine (scatter_row scatter_S8x2048_S1_S2048_0_0_0_0 rfl rfl _ _ _ 0 ?_ k).trans ?_
  · rfl
  · pointwise

/-- The bias the region reads: the argument with an axis of one put in. -/
theorem V_v4 (c : Dev nD) (i : S2x1x12288.Idx) : V m c main_v4 i = m ((c : Thread nD τ).loc main_arg2) (ix2 (i 0) (i 2)) := by
  show StableHlo.after (List.flatten _) _ _ _ = _
  simp only [List.flatten_cons, List.flatten_nil, List.append_nil]
  after_reads_simp
  pointwise

/-- One element of the array the kernel fills. -/
def whole (a : FVec Ideal S8x2048 .f32) (w : FVec Ideal S2x2048x12288 .f32) (b : FVec Ideal S2x12288 .f32) : FVec Ideal S2x8x12288 .f32 :=
  fun i => (show EReal from
    (∑ k : Fin 2048, ((show EReal from a (ix2 (i 1) k)) * Ideal.logistic (show EReal from a (ix2 (i 1) k))) * (show EReal from w (ix3 (i 0) k (i 2))))
      + (show EReal from b (ix2 (i 0) (i 2))))

/-- One stored element is that array's element at the place the block puts it. -/
theorem point (c : Dev nD) (t : Fin cfg0.N) (y) :
    k0_pay1 (iblk m c 0 t) (iblk m c 1 t) (iblk m c 2 t) y
      = whole (V m c main_v3) (m ((c : Thread nD τ).loc main_arg1)) (m ((c : Thread nD τ).loc main_arg2)) (((cfg0.win 3).blk t).view.emb y) := by
  pointwise [k0_pay1, whole]
  blk_simp [iblk, V_main_arg1, V_v4, idx t]
  blk_point [iblk, V_main_arg1, V_v4, idx t]
  refine (V_v4 m c _).trans ?_
  blk_ext [idx t]

/-- The result array after the run. -/
theorem final (c : Dev nD) : (dats m 0 c).arrAt 3 cfg0.N
    = whole (V m c main_v3) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- The reference's element: silu of the condition times the layer's weights, and the layer's bias. -/
theorem ref_at (x0 : FVec Ideal S1x2048 .f32) (w : FVec Ideal S2x2048x12288 .f32) (b : FVec Ideal S2x12288 .f32) (i : S2x12288.Idx) :
    Cert.AdaModRefIdeal.Read.val_main_v15 (F := Ideal) x0 w b i = (show EReal from
    (∑ k : Fin 2048, ((show EReal from x0 (ix2 0 k)) * Ideal.logistic (show EReal from x0 (ix2 0 k))) * (show EReal from w (ix3 (i 0) k (i 1))))
      + (show EReal from b (ix2 (i 0) (i 1)))) := by
  obtain ⟨h, q, rfl⟩ : ∃ h q, i = ix2 h q := ⟨i 0, i 1, by funext a; match a with | ⟨0, _⟩ => rfl | ⟨1, _⟩ => rfl⟩
  fin_cases h
  · unfold Cert.AdaModRefIdeal.Read.val_main_v15
    pointwise [Cert.AdaModRefIdeal.Read.val_main_v7, Cert.AdaModRefIdeal.Read.val_main_v14, Cert.AdaModRefIdeal.Read.val_main_v3,
      Cert.AdaModRefIdeal.Read.val_main_v6, Cert.AdaModRefIdeal.Read.val_main_v5, Cert.AdaModRefIdeal.Read.val_main_v4, Cert.AdaModRefIdeal.Read.val_main_v2,
      Cert.AdaModRefIdeal.Read.val_main_v1, Cert.AdaModRefIdeal.Read.val_main_v8, Cert.AdaModRefIdeal.Read.val_main_v9, Cert.AdaModRefIdeal.Read.val_main_v10,
      Cert.AdaModRefIdeal.Read.val_main_v11, Cert.AdaModRefIdeal.Read.val_main_v12, Cert.AdaModRefIdeal.Read.val_main_v13, Cert.AdaModRefIdeal.Read.val_main_v0,
      Cert.AdaModRefIdeal.Read.val_main_call0_v5, Cert.AdaModRefIdeal.Read.val_main_call0_v3, Cert.AdaModRefIdeal.Read.val_main_call0_v1, Cert.AdaModRefIdeal.Read.val_main_call0_v0,
      Cert.AdaModRefIdeal.Read.val_main_call0_v2, Cert.AdaModRefIdeal.Read.val_main_call0_v4, Cert.AdaModRefIdeal.Read.val_main_call0_cst,
      Cert.AdaModRefIdeal.Read.val_main_call0_cst_0, Ideal.logistic]
  · unfold Cert.AdaModRefIdeal.Read.val_main_v15
    pointwise [Cert.AdaModRefIdeal.Read.val_main_v7, Cert.AdaModRefIdeal.Read.val_main_v14, Cert.AdaModRefIdeal.Read.val_main_v3,
      Cert.AdaModRefIdeal.Read.val_main_v6, Cert.AdaModRefIdeal.Read.val_main_v5, Cert.AdaModRefIdeal.Read.val_main_v4, Cert.AdaModRefIdeal.Read.val_main_v2,
      Cert.AdaModRefIdeal.Read.val_main_v1, Cert.AdaModRefIdeal.Read.val_main_v8, Cert.AdaModRefIdeal.Read.val_main_v9, Cert.AdaModRefIdeal.Read.val_main_v10,
      Cert.AdaModRefIdeal.Read.val_main_v11, Cert.AdaModRefIdeal.Read.val_main_v12, Cert.AdaModRefIdeal.Read.val_main_v13, Cert.AdaModRefIdeal.Read.val_main_v0,
      Cert.AdaModRefIdeal.Read.val_main_call0_v5, Cert.AdaModRefIdeal.Read.val_main_call0_v3, Cert.AdaModRefIdeal.Read.val_main_call0_v1, Cert.AdaModRefIdeal.Read.val_main_call0_v0,
      Cert.AdaModRefIdeal.Read.val_main_call0_v2, Cert.AdaModRefIdeal.Read.val_main_call0_v4, Cert.AdaModRefIdeal.Read.val_main_call0_cst,
      Cert.AdaModRefIdeal.Read.val_main_call0_cst_0, Ideal.logistic]

/-- Row 0 of the array, taken and reshaped, is the reference's term when row 0 of the operand is the condition. -/
theorem row_taken (a : FVec Ideal S8x2048 .f32) (x0 : FVec Ideal S1x2048 .f32) (h : ∀ k : Fin 2048, a (ix2 0 k) = x0 (ix2 0 k))
    (w : FVec Ideal S2x2048x12288 .f32) (b : FVec Ideal S2x12288 .f32) (i : S2x12288.Idx) :
    shapeCast S2x12288 (extractStridedSlice S2x1x12288 ![0, 0, 0] (whole a w b) slices_S2x8x12288_S2x1x12288_0_0_0)
        shapeCasts_S2x1x12288_S2x12288 i
      = Cert.AdaModRefIdeal.Read.val_main_v15 (F := Ideal) x0 w b i := by
  refine Eq.trans ?_ (ref_at x0 w b i).symm
  pointwise [whole]
  simp only [h]

/-- What the host takes out of the array after the region is the reference's term. -/
theorem taken (c : Dev nD) : Pipeline.afterTail₀ cfgs (dats m) 0 (V0 m) [hostOps1] c main_v7
    = Cert.AdaModRefIdeal.Read.val_main_v15 (F := Ideal) (m ((c : Thread nD τ).loc main_arg0)) (m ((c : Thread nD τ).loc main_arg1))
        (m ((c : Thread nD τ).loc main_arg2)) := by
  have h : Pipeline.withArrays (cfgs 0).spec c (V0 m c) (fun w => (dats m 0 c).arrAt w (cfgs 0).N) (Proc.tc.devRef main_v5) = _ :=
    (Pipeline.withArrays_arr (cfgs 0).spec launch0.win.arr_inj c (V0 m c) (fun w => (dats m 0 c).arrAt w (cfgs 0).N) 3).trans (final m c)
  unfold Pipeline.afterTail₀
  simp only [List.flatten_cons, List.flatten_nil, List.append_nil]
  after_reads_simp
  rw [h]
  funext i
  exact row_taken _ _ (V_v3 m c) _ _ i

/-- The kernel run, its result the reference's term of the arguments. -/
theorem run (ρ : Dev nD → PrngReg) :
    θ_run defs (onTc (τ := τ) (main (F := Ideal))) ⟨m, fun _ => 0, ρ⟩ fun r => ∀ c : Dev nD,
      r.2.mem ((c : Thread nD τ).loc main_v7)
        = Cert.AdaModRefIdeal.Read.val_main_v15 (F := Ideal) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from Cert.AdaModIdeal.Gen.run_main m ρ
  · exact taken m c
  · exact W_main_arg0 m (dats m) c
  · exact W_main_arg2 m (dats m) c

end Cert.AdaModIdeal.Tiles

end
-- ==== Proof.lean ====
/- The proof of the claim: every program's frame, and for each call of the kernel that its idealized program computes
   the reference's result. -/
module

public import proofs.«01_k».proof.Defs
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Ffn
public import proofs.«01_k».proof.Proof.Gen.Ffn.Launch
public import proofs.«01_k».proof.Proof.Gen.FfnIdeal
public import proofs.«01_k».proof.Proof.Gen.FfnIdeal.Launch
public import proofs.«01_k».proof.Proof.Gen.FfnIdeal.Skeleton
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Combine
public import proofs.«01_k».proof.Proof.Gen.CombineIdeal
public import proofs.«01_k».proof.Proof.Gen.CombineIdeal.Launch
public import proofs.«01_k».proof.Proof.Gen.CombineIdeal.Loops
public import proofs.«01_k».proof.Proof.Gen.CombineIdeal.Skeleton
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.IndexQuery
public import proofs.«01_k».proof.Proof.Gen.IndexQuery.Frame
public import proofs.«01_k».proof.Proof.Gen.IndexQueryIdeal
public import proofs.«01_k».proof.Proof.Gen.IndexQueryIdeal.Frame
public import proofs.«01_k».proof.Proof.Gen.IndexQueryIdeal.Value
public import proofs.«01_k».proof.Proof.Gen.IndexQueryRefIdeal
public import proofs.«01_k».proof.Proof.Gen.IndexQueryRefIdeal.Run
public import proofs.«01_k».proof.Proof.Gen.IndexQueryRefIdeal.Read
public import proofs.«01_k».proof.Proof.Gen.IndexKey
public import proofs.«01_k».proof.Proof.Gen.IndexKey.Frame
public import proofs.«01_k».proof.Proof.Gen.IndexKeyIdeal
public import proofs.«01_k».proof.Proof.Gen.IndexKeyIdeal.Frame
public import proofs.«01_k».proof.Proof.Gen.IndexKeyIdeal.Skeleton
public import proofs.«01_k».proof.Proof.Gen.IndexKeyRefIdeal
public import proofs.«01_k».proof.Proof.Gen.IndexKeyRefIdeal.Run
public import proofs.«01_k».proof.Proof.Gen.IndexKeyRefIdeal.Read
public import proofs.«01_k».proof.Proof.Gen.NormMod
public import proofs.«01_k».proof.Proof.Gen.NormMod.Frame
public import proofs.«01_k».proof.Proof.Gen.NormModIdeal
public import proofs.«01_k».proof.Proof.Gen.NormModIdeal.Frame
public import proofs.«01_k».proof.Proof.Gen.NormModIdeal.Value
public import proofs.«01_k».proof.Proof.Gen.NormModRefIdeal
public import proofs.«01_k».proof.Proof.Gen.NormModRefIdeal.Run
public import proofs.«01_k».proof.Proof.Gen.NormModRefIdeal.Read
public import proofs.«01_k».proof.Proof.Gen.AdaMod
public import proofs.«01_k».proof.Proof.Gen.AdaMod.Frame
public import proofs.«01_k».proof.Proof.Gen.AdaModIdeal
public import proofs.«01_k».proof.Proof.Gen.AdaModIdeal.Frame
public import proofs.«01_k».proof.Proof.Gen.AdaModIdeal.Skeleton
public import proofs.«01_k».proof.Proof.Gen.AdaModRefIdeal
public import proofs.«01_k».proof.Proof.Gen.AdaModRefIdeal.Run
public import proofs.«01_k».proof.Proof.Gen.AdaModRefIdeal.Read
public import proofs.«01_k».proof.Proof.GluValue
public import proofs.«01_k».proof.Proof.ProjValue
public import proofs.«01_k».proof.Proof.FfnFrame
public import proofs.«01_k».proof.Proof.FfnPre
public import proofs.«01_k».proof.Proof.FfnValue
public import proofs.«01_k».proof.Proof.FfnBits
public import proofs.«01_k».proof.Proof.CombineFrame
public import proofs.«01_k».proof.Proof.CombinePre
public import proofs.«01_k».proof.Proof.CombineValue
public import proofs.«01_k».proof.Proof.CombineBits
public import proofs.«01_k».proof.Proof.QueryValue
public import proofs.«01_k».proof.Proof.IndexQueryValue
public import proofs.«01_k».proof.Proof.IndexKeyValue
public import proofs.«01_k».proof.Proof.NormModValue
public import proofs.«01_k».proof.Proof.AdaModValue
public import Idealize.ShloMosaic.Adequacy
public import Idealize.ShloMosaic.Init
public import Idealize.ShloMosaic.Lib.Claim
public import Idealize.ShloMosaic.Lib.Quiescent

@[expose] public section

namespace Cert.Proof

open Idealize.ShloMosaic Idealize.SL.Sem

/-- The gated linear unit's reference runs to the end and keeps its arguments. -/
theorem frame_gluRef : Cert.quiescent_GluRefIdeal := fun m ρ _ =>
  (θ_run Cert.GluRefIdeal.defs _ _).mono
    (fun r h => ⟨fun c => (h c).2, Idealize.ShloMosaic.sem_eq_zero_of_no_sems (by decide) r.2⟩)
    (Cert.GluRefIdeal.Value.run (F := Ideal) m ρ)

/-- The output projection's reference runs to the end and keeps its arguments. -/
theorem frame_projRef : Cert.quiescent_ProjRefIdeal := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

/-- The gated linear unit computes its reference. -/
theorem value_glu : Cert.algebraic_GluIdeal_GluRefIdeal := by
  pair_intro
  · run_from Cert.GluIdeal.Tiles.run m g
  · run_from Cert.GluRefIdeal.Value.run (F := Ideal) m' g'
    exact Cert.GluRefIdeal.Read.val_main_v13_eq _ _ _

/-- The output projection computes its reference. -/
theorem value_proj : Cert.algebraic_ProjIdeal_ProjRefIdeal := by
  pair_intro
  · run_from Cert.ProjIdeal.Tiles.run m g
  · run_from Cert.ProjRefIdeal.Value.run (F := Ideal) m' g'
    exact Cert.ProjRefIdeal.Read.val_main_v8_eq _ _ _ _ _

/-- The experts' idealized program runs to the end and keeps its arguments, its tables naming blocks, -/
theorem frame_ffnIdeal : Cert.quiescent_FfnIdeal (hPre_blocks_named := blocks_named_facts) := fun m ρ h =>
  letI := blocks_named_facts
  (θ_run Cert.FfnIdeal.defs _ _).mono (fun _ hr => ⟨fun c => (hr.1 c).2, hr.2⟩)
    (Cert.FfnIdeal.Blocks.run_args (F := Ideal) m ρ (Cert.FfnIdeal.Blocks.ok_of_named m h) (Cert.FfnIdeal.Blocks.marked_of_named m h))
/-- and so does the reference. -/
theorem frame_ffnRef : Cert.quiescent_FfnRefIdeal (hPre_blocks_named := blocks_named_facts) := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The experts' call computes its reference. -/
theorem value_ffn : Cert.algebraic_FfnIdeal_FfnRefIdeal (hPre_blocks_named := blocks_named_facts) := by
  letI := blocks_named_facts
  pair_intro
  · run_from Cert.FfnIdeal.Blocks.run_value m hpre g
  · run_from (θ_run Cert.FfnRefIdeal.defs _ _).mono
      (fun r h c => And.intro ((h c).1.trans (Cert.FfnRefIdeal.Read.val_main_v29_eq m' c)) (h c).2) (Cert.FfnRefIdeal.Value.run (F := Ideal) m' g')

/-- The last call's idealized program runs to the end and keeps its arguments, its table naming rows, -/
theorem frame_combineIdeal : Cert.quiescent_CombineIdeal (hPre_rows_named := rows_named_facts) := fun m ρ h =>
  letI := rows_named_facts
  (θ_run Cert.CombineIdeal.defs _ _).mono (fun _ hr => ⟨fun c => (hr.1 c).2, hr.2⟩)
    (Cert.CombineIdeal.Gather.run_args (F := Ideal) m ρ (Cert.CombineIdeal.Gather.ok_of_named m h))
/-- and so does its reference. -/
theorem frame_combineRef : Cert.quiescent_CombineRefIdeal (hPre_rows_named := rows_named_facts) := fun m ρ _ =>
  (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- The last call computes its reference. -/
theorem value_combine : Cert.algebraic_CombineIdeal_CombineRefIdeal (hPre_rows_named := rows_named_facts) := by
  letI := rows_named_facts
  pair_intro
  · run_from Cert.CombineIdeal.Gather.run_value m hpre g
  · run_from (θ_run Cert.CombineRefIdeal.defs _ _).mono
      (fun r h c => And.intro ((h c).1.trans (Cert.CombineRefIdeal.Read.val_main_v17_eq _ _ _ _ _)) (h c).2) (Cert.CombineRefIdeal.Value.run (F := Ideal) m' g')

/-- The attention's query reference runs to the end and keeps its arguments. -/
theorem frame_queryRef : Cert.quiescent_QueryRefIdeal := fun m ρ _ =>
  (θ_run Cert.QueryRefIdeal.defs _ _).mono
    (fun r h => ⟨fun c => (h c).2, Idealize.ShloMosaic.sem_eq_zero_of_no_sems (by decide) r.2⟩)
    (Cert.QueryRefIdeal.Value.run (F := Ideal) m ρ)

/-- The attention's query projection with rotary positions computes its reference. -/
theorem value_query : Cert.algebraic_QueryIdeal_QueryRefIdeal := by
  pair_intro
  · run_from Cert.QueryIdeal.Turn.run m g
  · run_from (θ_run Cert.QueryRefIdeal.defs _ _).mono
      (fun r h c => And.intro ((h c).1.trans (Cert.QueryRefIdeal.Read.val_main_v35_eq _ _)) (h c).2) (Cert.QueryRefIdeal.Value.run (F := Ideal) m' g')

/-- The indexer's query reference runs to the end and keeps its arguments. -/
theorem frame_indexQueryRef : Cert.quiescent_IndexQueryRefIdeal := fun m ρ _ =>
  (θ_run Cert.IndexQueryRefIdeal.defs _ _).mono
    (fun r h => ⟨fun c => (h c).2, Idealize.ShloMosaic.sem_eq_zero_of_no_sems (by decide) r.2⟩)
    (Cert.IndexQueryRefIdeal.Value.run (F := Ideal) m ρ)

/-- The indexer's query projection with rotary positions computes its reference. -/
theorem value_indexQuery : Cert.algebraic_IndexQueryIdeal_IndexQueryRefIdeal := by
  pair_intro
  · run_from Cert.IndexQueryIdeal.Turn.run m g
  · run_from (θ_run Cert.IndexQueryRefIdeal.defs _ _).mono
      (fun r h c => And.intro ((h c).1.trans (Cert.IndexQueryRefIdeal.Read.val_main_v35_eq _ _)) (h c).2) (Cert.IndexQueryRefIdeal.Value.run (F := Ideal) m' g')

/-- The reference of the indexer's key and weights runs to its end, its arguments unchanged. -/
theorem frame_indexKeyRef : Cert.quiescent_IndexKeyRefIdeal := fun m ρ _ =>
  (θ_run Cert.IndexKeyRefIdeal.defs _ _).mono
    (fun r h => ⟨fun c => (h c).2.2, Idealize.ShloMosaic.sem_eq_zero_of_no_sems (by decide) r.2⟩)
    (Cert.IndexKeyRefIdeal.Value.run (F := Ideal) m ρ)

/-- The indexer's key and its heads' weights are computed as the reference does. -/
theorem value_indexKey : Cert.algebraic_IndexKeyIdeal_IndexKeyRefIdeal := by
  pair_intro
  · run_from Cert.IndexKeyIdeal.Turn.run m g
  · run_from (θ_run Cert.IndexKeyRefIdeal.defs _ _).mono
      (fun r h c => And.intro ((h c).1.trans (Cert.IndexKeyRefIdeal.Read.val_main_v35_eq _ _))
        (And.intro ((h c).2.1.trans (Cert.IndexKeyRefIdeal.Read.val_main_v38_eq _ _)) (h c).2.2)) (Cert.IndexKeyRefIdeal.Value.run (F := Ideal) m' g')

/-- The norm's reference runs to its end, its arguments unchanged. -/
theorem frame_normModRef : Cert.quiescent_NormModRefIdeal := fun m ρ _ =>
  (θ_run Cert.NormModRefIdeal.defs _ _).mono
    (fun r h => ⟨fun c => (h c).2, Idealize.ShloMosaic.sem_eq_zero_of_no_sems (by decide) r.2⟩)
    (Cert.NormModRefIdeal.Value.run (F := Ideal) m ρ)

/-- The root-mean-square norm with scale and shift computes its reference. -/
theorem value_normMod : Cert.algebraic_NormModIdeal_NormModRefIdeal := by
  pair_intro
  · run_from Cert.NormModIdeal.Rows.run m g
  · run_from (θ_run Cert.NormModRefIdeal.defs _ _).mono
      (fun r h c => And.intro ((h c).1.trans (Cert.NormModRefIdeal.Read.val_main_v21_eq _ _ _ _)) (h c).2) (Cert.NormModRefIdeal.Value.run (F := Ideal) m' g')

/-- Their reference runs to its end, its arguments unchanged. -/
theorem frame_adaModRef : Cert.quiescent_AdaModRefIdeal := fun m ρ _ =>
  (θ_run Cert.AdaModRefIdeal.defs _ _).mono
    (fun r h => ⟨fun c => (h c).2, Idealize.ShloMosaic.sem_eq_zero_of_no_sems (by decide) r.2⟩)
    (Cert.AdaModRefIdeal.Value.run (F := Ideal) m ρ)

/-- The layers' scales, shifts and gates are computed as the reference does. -/
theorem value_adaMod : Cert.algebraic_AdaModIdeal_AdaModRefIdeal := by
  pair_intro
  · run_from Cert.AdaModIdeal.Tiles.run m g
  · run_from (θ_run Cert.AdaModRefIdeal.defs _ _).mono
      (fun r h c => And.intro ((h c).1.trans (Cert.AdaModRefIdeal.Read.val_main_v15_eq _ _ _)) (h c).2) (Cert.AdaModRefIdeal.Value.run (F := Ideal) m' g')

/-- The whole claim, claim by claim in its order. -/
theorem claim : Cert.Claim :=
  ⟨Cert.Glu.Gen.facts, Cert.GluIdeal.Gen.facts, Cert.GluRefIdeal.Gen.facts,
   Cert.Proj.Gen.facts, Cert.ProjIdeal.Gen.facts, Cert.ProjRefIdeal.Gen.facts,
   Cert.Ffn.Gen.facts, Cert.FfnIdeal.Gen.facts, Cert.FfnRefIdeal.Gen.facts,
   Cert.Combine.Gen.facts, Cert.CombineIdeal.Gen.facts, Cert.CombineRefIdeal.Gen.facts,
   Cert.Query.Gen.facts, Cert.QueryIdeal.Gen.facts, Cert.QueryRefIdeal.Gen.facts,
   Cert.IndexQuery.Gen.facts, Cert.IndexQueryIdeal.Gen.facts, Cert.IndexQueryRefIdeal.Gen.facts,
   Cert.IndexKey.Gen.facts, Cert.IndexKeyIdeal.Gen.facts, Cert.IndexKeyRefIdeal.Gen.facts,
   Cert.NormMod.Gen.facts, Cert.NormModIdeal.Gen.facts, Cert.NormModRefIdeal.Gen.facts,
   Cert.AdaMod.Gen.facts, Cert.AdaModIdeal.Gen.facts, Cert.AdaModRefIdeal.Gen.facts, blocks_named_facts, rows_named_facts,
   fun m ρ _ => Cert.Glu.Gen.frame m ρ, fun m ρ _ => Cert.GluIdeal.Gen.frame m ρ, frame_gluRef,
   fun m ρ _ => Cert.Proj.Gen.frame m ρ, fun m ρ _ => Cert.ProjIdeal.Gen.frame m ρ, frame_projRef,
   frame_ffn, frame_ffnIdeal, frame_ffnRef,
   frame_combine, frame_combineIdeal, frame_combineRef,
   fun m ρ _ => Cert.Query.Gen.frame m ρ, fun m ρ _ => Cert.QueryIdeal.Gen.frame m ρ, frame_queryRef,
   fun m ρ _ => Cert.IndexQuery.Gen.frame m ρ, fun m ρ _ => Cert.IndexQueryIdeal.Gen.frame m ρ, frame_indexQueryRef,
   fun m ρ _ => Cert.IndexKey.Gen.frame m ρ, fun m ρ _ => Cert.IndexKeyIdeal.Gen.frame m ρ, frame_indexKeyRef,
   fun m ρ _ => Cert.NormMod.Gen.frame m ρ, fun m ρ _ => Cert.NormModIdeal.Gen.frame m ρ, frame_normModRef,
   fun m ρ _ => Cert.AdaMod.Gen.frame m ρ, fun m ρ _ => Cert.AdaModIdeal.Gen.frame m ρ, frame_adaModRef,
   trivial, value_glu, trivial, value_proj, trivial, value_ffn, trivial, value_combine,
   trivial, value_query, trivial, value_indexQuery, trivial, value_indexKey, trivial, value_normMod, trivial, value_adaMod⟩

end Cert.Proof
